-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S8x512x512 : Shape := ⟨3, ![8, 512, 512]⟩
abbrev S2x512x8192 : Shape := ⟨3, ![2, 512, 8192]⟩
abbrev S8 : Shape := ⟨1, ![8]⟩
abbrev S2 : Shape := ⟨1, ![2]⟩
abbrev S_ : Shape := ⟨0, ![]⟩
abbrev S1x512x8192 : Shape := ⟨3, ![1, 512, 8192]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .i8⟩
  | .local _ .vmem, ⟨1, _⟩ => ⟨S512x8192, .f32⟩
  | .local _ .vmem, ⟨2, _⟩ => ⟨S8x512x512, .i8⟩
  | .local _ .vmem, ⟨3, _⟩ => ⟨S2x512x8192, .i8⟩
  | .local _ .vmem, ⟨4, _⟩ => ⟨S2x512x8192, .bf16⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let c0_i32_7 : BitVec 32 := 0#32
  let v10 : BitVec 1 := Scalar.cmpi .eq c8_i32_6 c0_i32_7
  let c1_i32_8 : BitVec 32 := 1#32
  let v11 : BitVec 32 := Scalar.select v10 c1_i32_8 c8_i32_6
  let v12 : BitVec 32 := Scalar.remsi v9 v11
  let c0_i32_10 : BitVec 32 := 0#32
  let v14 : BitVec 1 := Scalar.cmpi .slt v12 c0_i32_10
  let c0_i32_11 : BitVec 32 := 0#32
  let v15 : BitVec 1 := Scalar.cmpi .slt v11 c0_i32_11
  let v16 : BitVec 1 := Scalar.xori v14 v15
  let c0_i32_9 : BitVec 32 := 0#32
  let v13 : BitVec 1 := Scalar.cmpi .ne v12 c0_i32_9
  let v17 : BitVec 1 := Scalar.andi v16 v13
  let v18 : BitVec 32 := Scalar.addi v12 v11
  let v19 : BitVec 32 := Scalar.select v17 v18 v12
  let c1_i32_13 : BitVec 32 := 1#32
  let v20 : BitVec 32 := Scalar.muli v19 c1_i32_13
  let v21 : BitVec 32 := Scalar.addi c0_i32_14 v20
  v21.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v22 : BitVec 32 := Scalar.addi v2 c2_i32
  let c8_i32_15 : BitVec 32 := 8#32
  let c0_i32_16 : BitVec 32 := 0#32
  let v23 : BitVec 1 := Scalar.cmpi .eq c8_i32_15 c0_i32_16
  let c1_i32_17 : BitVec 32 := 1#32
  let v24 : BitVec 32 := Scalar.select v23 c1_i32_17 c8_i32_15
  let v25 : BitVec 32 := Scalar.remsi v22 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c1_i32_22 : BitVec 32 := 1#32
  let v33 : BitVec 32 := Scalar.muli v32 c1_i32_22
  let v34 : BitVec 32 := Scalar.addi c0_i32_23 v33
  v34.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v35 : BitVec 32 := Scalar.addi v2 c3_i32
  let c8_i32_24 : BitVec 32 := 8#32
  let c0_i32_25 : BitVec 32 := 0#32
  let v36 : BitVec 1 := Scalar.cmpi .eq c8_i32_24 c0_i32_25
  let c1_i32_26 : BitVec 32 := 1#32
  let v37 : BitVec 32 := Scalar.select v36 c1_i32_26 c8_i32_24
  let v38 : BitVec 32 := Scalar.remsi v35 v37
  let c0_i32_28 : BitVec 32 := 0#32
  let v40 : BitVec 1 := Scalar.cmpi .slt v38 c0_i32_28
  let c0_i32_29 : BitVec 32 := 0#32
  let v41 : BitVec 1 := Scalar.cmpi .slt v37 c0_i32_29
  let v42 : BitVec 1 := Scalar.xori v40 v41
  let c0_i32_27 : BitVec 32 := 0#32
  let v39 : BitVec 1 := Scalar.cmpi .ne v38 c0_i32_27
  let v43 : BitVec 1 := Scalar.andi v42 v39
  let v44 : BitVec 32 := Scalar.addi v38 v37
  let v45 : BitVec 32 := Scalar.select v43 v44 v38
  let c1_i32_31 : BitVec 32 := 1#32
  let v46 : BitVec 32 := Scalar.muli v45 c1_i32_31
  let v47 : BitVec 32 := Scalar.addi c0_i32_32 v46
  v47.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v48 : BitVec 32 := Scalar.addi v2 c4_i32
  let c8_i32_33 : BitVec 32 := 8#32
  let c0_i32_34 : BitVec 32 := 0#32
  let v49 : BitVec 1 := Scalar.cmpi .eq c8_i32_33 c0_i32_34
  let c1_i32_35 : BitVec 32 := 1#32
  let v50 : BitVec 32 := Scalar.select v49 c1_i32_35 c8_i32_33
  let v51 : BitVec 32 := Scalar.remsi v48 v50
  let c0_i32_37 : BitVec 32 := 0#32
  let v53 : BitVec 1 := Scalar.cmpi .slt v51 c0_i32_37
  let c0_i32_38 : BitVec 32 := 0#32
  let v54 : BitVec 1 := Scalar.cmpi .slt v50 c0_i32_38
  let v55 : BitVec 1 := Scalar.xori v53 v54
  let c0_i32_36 : BitVec 32 := 0#32
  let v52 : BitVec 1 := Scalar.cmpi .ne v51 c0_i32_36
  let v56 : BitVec 1 := Scalar.andi v55 v52
  let v57 : BitVec 32 := Scalar.addi v51 v50
  let v58 : BitVec 32 := Scalar.select v56 v57 v51
  let c1_i32_40 : BitVec 32 := 1#32
  let v59 : BitVec 32 := Scalar.muli v58 c1_i32_40
  let v60 : BitVec 32 := Scalar.addi c0_i32_41 v59
  v60.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v61 : BitVec 32 := Scalar.addi v2 c5_i32
  let c8_i32_42 : BitVec 32 := 8#32
  let c0_i32_43 : BitVec 32 := 0#32
  let v62 : BitVec 1 := Scalar.cmpi .eq c8_i32_42 c0_i32_43
  let c1_i32_44 : BitVec 32 := 1#32
  let v63 : BitVec 32 := Scalar.select v62 c1_i32_44 c8_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v74 : BitVec 32 := Scalar.addi v2 c6_i32
  let c8_i32_51 : BitVec 32 := 8#32
  let c0_i32_52 : BitVec 32 := 0#32
  let v75 : BitVec 1 := Scalar.cmpi .eq c8_i32_51 c0_i32_52
  let c1_i32_53 : BitVec 32 := 1#32
  let v76 : BitVec 32 := Scalar.select v75 c1_i32_53 c8_i32_51
  let v77 : BitVec 32 := Scalar.remsi v74 v76
  let c0_i32_55 : BitVec 32 := 0#32
  let v79 : BitVec 1 := Scalar.cmpi .slt v77 c0_i32_55
  let c0_i32_56 : BitVec 32 := 0#32
  let v80 : BitVec 1 := Scalar.cmpi .slt v76 c0_i32_56
  let v81 : BitVec 1 := Scalar.xori v79 v80
  let c0_i32_54 : BitVec 32 := 0#32
  let v78 : BitVec 1 := Scalar.cmpi .ne v77 c0_i32_54
  let v82 : BitVec 1 := Scalar.andi v81 v78
  let v83 : BitVec 32 := Scalar.addi v77 v76
  let v84 : BitVec 32 := Scalar.select v82 v83 v77
  let c1_i32_58 : BitVec 32 := 1#32
  let v85 : BitVec 32 := Scalar.muli v84 c1_i32_58
  let v86 : BitVec 32 := Scalar.addi c0_i32_59 v85
  v86.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v87 : BitVec 32 := Scalar.addi v2 c7_i32
  let c8_i32_60 : BitVec 32 := 8#32
  let c0_i32_61 : BitVec 32 := 0#32
  let v88 : BitVec 1 := Scalar.cmpi .eq c8_i32_60 c0_i32_61
  let c1_i32_62 : BitVec 32 := 1#32
  let v89 : BitVec 32 := Scalar.select v88 c1_i32_62 c8_i32_60
  let v90 : BitVec 32 := Scalar.remsi v87 v89
  let c0_i32_64 : BitVec 32 := 0#32
  let v92 : BitVec 1 := Scalar.cmpi .slt v90 c0_i32_64
  let c0_i32_65 : BitVec 32 := 0#32
  let v93 : BitVec 1 := Scalar.cmpi .slt v89 c0_i32_65
  let v94 : BitVec 1 := Scalar.xori v92 v93
  let c0_i32_63 : BitVec 32 := 0#32
  let v91 : BitVec 1 := Scalar.cmpi .ne v90 c0_i32_63
  let v95 : BitVec 1 := Scalar.andi v94 v91
  let v96 : BitVec 32 := Scalar.addi v90 v89
  let v97 : BitVec 32 := Scalar.select v95 v96 v90
  let c1_i32_67 : BitVec 32 := 1#32
  let v98 : BitVec 32 := Scalar.muli v97 c1_i32_67
  let v99 : BitVec 32 := Scalar.addi c0_i32_68 v98
  v99.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_70 : BitVec 32 := 0#32
  let c0_i32_71 : BitVec 32 := 0#32
  ![v2.toNat, 0, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v100 : BitVec 32 := Scalar.muli v2 c512_i32
  let c0_i32_72 : BitVec 32 := 0#32
  ![v100.toNat, 0]
def k0_off4 (d0 : Dev nD) (c1_i32_73 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v106 : BitVec 32 := Scalar.addi v2 c1_i32_73
  let c8_i32_74 : BitVec 32 := 8#32
  let c0_i32_75 : BitVec 32 := 0#32
  let v107 : BitVec 1 := Scalar.cmpi .eq c8_i32_74 c0_i32_75
  let c1_i32_76 : BitVec 32 := 1#32
  let v108 : BitVec 32 := Scalar.select v107 c1_i32_76 c8_i32_74
  let v109 : BitVec 32 := Scalar.remsi v106 v108
  let c0_i32_78 : BitVec 32 := 0#32
  let v111 : BitVec 1 := Scalar.cmpi .slt v109 c0_i32_78
  let c0_i32_79 : BitVec 32 := 0#32
  let v112 : BitVec 1 := Scalar.cmpi .slt v108 c0_i32_79
  let v113 : BitVec 1 := Scalar.xori v111 v112
  let c0_i32_77 : BitVec 32 := 0#32
  let v110 : BitVec 1 := Scalar.cmpi .ne v109 c0_i32_77
  let v114 : BitVec 1 := Scalar.andi v113 v110
  let v115 : BitVec 32 := Scalar.addi v109 v108
  let v116 : BitVec 32 := Scalar.select v114 v115 v109
  let c512_i32_80 : BitVec 32 := 512#32
  let v117 : BitVec 32 := Scalar.muli v116 c512_i32_80
  let c0_i32_86 : BitVec 32 := 0#32
  ![v117.toNat, 0]
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v106 : BitVec 32 := Scalar.addi v2 c1_i32_73
  let c8_i32_74 : BitVec 32 := 8#32
  let c0_i32_75 : BitVec 32 := 0#32
  let v107 : BitVec 1 := Scalar.cmpi .eq c8_i32_74 c0_i32_75
  let c1_i32_76 : BitVec 32 := 1#32
  let v108 : BitVec 32 := Scalar.select v107 c1_i32_76 c8_i32_74
  let v109 : BitVec 32 := Scalar.remsi v106 v108
  let c0_i32_78 : BitVec 32 := 0#32
  let v111 : BitVec 1 := Scalar.cmpi .slt v109 c0_i32_78
  let c0_i32_79 : BitVec 32 := 0#32
  let v112 : BitVec 1 := Scalar.cmpi .slt v108 c0_i32_79
  let v113 : BitVec 1 := Scalar.xori v111 v112
  let c0_i32_77 : BitVec 32 := 0#32
  let v110 : BitVec 1 := Scalar.cmpi .ne v109 c0_i32_77
  let v114 : BitVec 1 := Scalar.andi v113 v110
  let v115 : BitVec 32 := Scalar.addi v109 v108
  let v116 : BitVec 32 := Scalar.select v114 v115 v109
  let c1_i32_82 : BitVec 32 := 1#32
  let v118 : BitVec 32 := Scalar.muli v116 c1_i32_82
  let v119 : BitVec 32 := Scalar.addi c0_i32_83 v118
  v119.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v127 : BitVec 32 := Scalar.addi v2 c2_i32_87
  let c8_i32_88 : BitVec 32 := 8#32
  let c0_i32_89 : BitVec 32 := 0#32
  let v128 : BitVec 1 := Scalar.cmpi .eq c8_i32_88 c0_i32_89
  let c1_i32_90 : BitVec 32 := 1#32
  let v129 : BitVec 32 := Scalar.select v128 c1_i32_90 c8_i32_88
  let v130 : BitVec 32 := Scalar.remsi v127 v129
  let c0_i32_92 : BitVec 32 := 0#32
  let v132 : BitVec 1 := Scalar.cmpi .slt v130 c0_i32_92
  let c0_i32_93 : BitVec 32 := 0#32
  let v133 : BitVec 1 := Scalar.cmpi .slt v129 c0_i32_93
  let v134 : BitVec 1 := Scalar.xori v132 v133
  let c0_i32_91 : BitVec 32 := 0#32
  let v131 : BitVec 1 := Scalar.cmpi .ne v130 c0_i32_91
  let v135 : BitVec 1 := Scalar.andi v134 v131
  let v136 : BitVec 32 := Scalar.addi v130 v129
  let v137 : BitVec 32 := Scalar.select v135 v136 v130
  let c1_i32_96 : BitVec 32 := 1#32
  let v139 : BitVec 32 := Scalar.muli v137 c1_i32_96
  let v140 : BitVec 32 := Scalar.addi c0_i32_97 v139
  v140.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v148 : BitVec 32 := Scalar.addi v2 c3_i32_101
  let c8_i32_102 : BitVec 32 := 8#32
  let c0_i32_103 : BitVec 32 := 0#32
  let v149 : BitVec 1 := Scalar.cmpi .eq c8_i32_102 c0_i32_103
  let c1_i32_104 : BitVec 32 := 1#32
  let v150 : BitVec 32 := Scalar.select v149 c1_i32_104 c8_i32_102
  let v151 : BitVec 32 := Scalar.remsi v148 v150
  let c0_i32_106 : BitVec 32 := 0#32
  let v153 : BitVec 1 := Scalar.cmpi .slt v151 c0_i32_106
  let c0_i32_107 : BitVec 32 := 0#32
  let v154 : BitVec 1 := Scalar.cmpi .slt v150 c0_i32_107
  let v155 : BitVec 1 := Scalar.xori v153 v154
  let c0_i32_105 : BitVec 32 := 0#32
  let v152 : BitVec 1 := Scalar.cmpi .ne v151 c0_i32_105
  let v156 : BitVec 1 := Scalar.andi v155 v152
  let v157 : BitVec 32 := Scalar.addi v151 v150
  let v158 : BitVec 32 := Scalar.select v156 v157 v151
  let c1_i32_110 : BitVec 32 := 1#32
  let v160 : BitVec 32 := Scalar.muli v158 c1_i32_110
  let v161 : BitVec 32 := Scalar.addi c0_i32_111 v160
  v161.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v169 : BitVec 32 := Scalar.addi v2 c4_i32_115
  let c8_i32_116 : BitVec 32 := 8#32
  let c0_i32_117 : BitVec 32 := 0#32
  let v170 : BitVec 1 := Scalar.cmpi .eq c8_i32_116 c0_i32_117
  let c1_i32_118 : BitVec 32 := 1#32
  let v171 : BitVec 32 := Scalar.select v170 c1_i32_118 c8_i32_116
  let v172 : BitVec 32 := Scalar.remsi v169 v171
  let c0_i32_120 : BitVec 32 := 0#32
  let v174 : BitVec 1 := Scalar.cmpi .slt v172 c0_i32_120
  let c0_i32_121 : BitVec 32 := 0#32
  let v175 : BitVec 1 := Scalar.cmpi .slt v171 c0_i32_121
  let v176 : BitVec 1 := Scalar.xori v174 v175
  let c0_i32_119 : BitVec 32 := 0#32
  let v173 : BitVec 1 := Scalar.cmpi .ne v172 c0_i32_119
  let v177 : BitVec 1 := Scalar.andi v176 v173
  let v178 : BitVec 32 := Scalar.addi v172 v171
  let v179 : BitVec 32 := Scalar.select v177 v178 v172
  let c1_i32_124 : BitVec 32 := 1#32
  let v181 : BitVec 32 := Scalar.muli v179 c1_i32_124
  let v182 : BitVec 32 := Scalar.addi c0_i32_125 v181
  v182.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v190 : BitVec 32 := Scalar.addi v2 c5_i32_129
  let c8_i32_130 : BitVec 32 := 8#32
  let c0_i32_131 : BitVec 32 := 0#32
  let v191 : BitVec 1 := Scalar.cmpi .eq c8_i32_130 c0_i32_131
  let c1_i32_132 : BitVec 32 := 1#32
  let v192 : BitVec 32 := Scalar.select v191 c1_i32_132 c8_i32_130
  let v193 : BitVec 32 := Scalar.remsi v190 v192
  let c0_i32_134 : BitVec 32 := 0#32
  let v195 : BitVec 1 := Scalar.cmpi .slt v193 c0_i32_134
  let c0_i32_135 : BitVec 32 := 0#32
  let v196 : BitVec 1 := Scalar.cmpi .slt v192 c0_i32_135
  let v197 : BitVec 1 := Scalar.xori v195 v196
  let c0_i32_133 : BitVec 32 := 0#32
  let v194 : BitVec 1 := Scalar.cmpi .ne v193 c0_i32_133
  let v198 : BitVec 1 := Scalar.andi v197 v194
  let v199 : BitVec 32 := Scalar.addi v193 v192
  let v200 : BitVec 32 := Scalar.select v198 v199 v193
  let c1_i32_138 : BitVec 32 := 1#32
  let v202 : BitVec 32 := Scalar.muli v200 c1_i32_138
  let v203 : BitVec 32 := Scalar.addi c0_i32_139 v202
  v203.toNat
def k0_dev13 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_143 : BitVec 32 := 6#32
  let v211 : BitVec 32 := Scalar.addi v2 c6_i32_143
  let c8_i32_144 : BitVec 32 := 8#32
  let c0_i32_145 : BitVec 32 := 0#32
  let v212 : BitVec 1 := Scalar.cmpi .eq c8_i32_144 c0_i32_145
  let c1_i32_146 : BitVec 32 := 1#32
  let v213 : BitVec 32 := Scalar.select v212 c1_i32_146 c8_i32_144
  let v214 : BitVec 32 := Scalar.remsi v211 v213
  let c0_i32_148 : BitVec 32 := 0#32
  let v216 : BitVec 1 := Scalar.cmpi .slt v214 c0_i32_148
  let c0_i32_149 : BitVec 32 := 0#32
  let v217 : BitVec 1 := Scalar.cmpi .slt v213 c0_i32_149
  let v218 : BitVec 1 := Scalar.xori v216 v217
  let c0_i32_147 : BitVec 32 := 0#32
  let v215 : BitVec 1 := Scalar.cmpi .ne v214 c0_i32_147
  let v219 : BitVec 1 := Scalar.andi v218 v215
  let v220 : BitVec 32 := Scalar.addi v214 v213
  let v221 : BitVec 32 := Scalar.select v219 v220 v214
  let c1_i32_152 : BitVec 32 := 1#32
  let v223 : BitVec 32 := Scalar.muli v221 c1_i32_152
  let v224 : BitVec 32 := Scalar.addi c0_i32_153 v223
  v224.toNat
def k0_dev14 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_157 : BitVec 32 := 7#32
  let v232 : BitVec 32 := Scalar.addi v2 c7_i32_157
  let c8_i32_158 : BitVec 32 := 8#32
  let c0_i32_159 : BitVec 32 := 0#32
  let v233 : BitVec 1 := Scalar.cmpi .eq c8_i32_158 c0_i32_159
  let c1_i32_160 : BitVec 32 := 1#32
  let v234 : BitVec 32 := Scalar.select v233 c1_i32_160 c8_i32_158
  let v235 : BitVec 32 := Scalar.remsi v232 v234
  let c0_i32_162 : BitVec 32 := 0#32
  let v237 : BitVec 1 := Scalar.cmpi .slt v235 c0_i32_162
  let c0_i32_163 : BitVec 32 := 0#32
  let v238 : BitVec 1 := Scalar.cmpi .slt v234 c0_i32_163
  let v239 : BitVec 1 := Scalar.xori v237 v238
  let c0_i32_161 : BitVec 32 := 0#32
  let v236 : BitVec 1 := Scalar.cmpi .ne v235 c0_i32_161
  let v240 : BitVec 1 := Scalar.andi v239 v236
  let v241 : BitVec 32 := Scalar.addi v235 v234
  let v242 : BitVec 32 := Scalar.select v240 v241 v235
  let c1_i32_166 : BitVec 32 := 1#32
  let v244 : BitVec 32 := Scalar.muli v242 c1_i32_166
  let v245 : BitVec 32 := Scalar.addi c0_i32_167 v244
  v245.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Common.lean ====
/-
# The matmul kernel on eight devices: cells, contents and the schedule

Device `c` holds a column block of `x` (all 4096 rows, 512 columns, rows in eight blocks of 512) and all of `w`.
It copies its own row block `c` into slot `c` of its landing buffer and sends row block `p` to slot `c` of
device `p`'s landing buffer, for the seven other devices `p`; before sending it signals every other device's barrier
semaphore and waits for the seven signals to its own.  Then slot `j` holds the columns that device `j` has of
the rows of device `c`, and the kernel adds up eight products with the eight row blocks of `w`, which come one by one
through two buffers.

This module names the buffers, semaphores and contents, and says who owes what to which semaphore.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The rounds library's algebra for the kernel's own cells; a duty is named by a device number. -/
abbrev UB : Type := URounds (GSem nD τ sig) (Fin 8)
/-- The whole user algebra: the pipeline's cells, the kernel's cells, the local transfers' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's cells' component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- A core's weakest precondition in this kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Devices -/

set_option backward.proofsInPublic true in
/-- The device `d` places after `c`. -/
def peer (c : Dev nD) (d : Fin 8) : Dev nD := ⟨(c.val + d.val) % 8, Nat.mod_lt _ (by decide)⟩

/-- No places on is the device itself. -/
theorem peer_zero (c : Dev nD) : peer c 0 = c := by revert c; decide
/-- The seven peers are other devices. -/
theorem ne_peer (c : Dev nD) (d : Fin 8) (hd : d ≠ 0) : c ≠ peer c d := by revert c d; decide

/-- The printed target of the first signal, and below of the others and of the sends, is the device so many places on. -/
theorem dev_eq1 : ∀ c : Dev nD, (⟨k0_dev1 c, k0_dev1_lt c⟩ : Dev nD) = peer c 1 := by decide +kernel
/-- The printed target of signal 2 is the device so many places on. -/
theorem dev_eq2 : ∀ c : Dev nD, (⟨k0_dev2 c, k0_dev2_lt c⟩ : Dev nD) = peer c 2 := by decide +kernel
/-- The printed target of signal 3 is the device so many places on. -/
theorem dev_eq3 : ∀ c : Dev nD, (⟨k0_dev3 c, k0_dev3_lt c⟩ : Dev nD) = peer c 3 := by decide +kernel
/-- The printed target of signal 4 is the device so many places on. -/
theorem dev_eq4 : ∀ c : Dev nD, (⟨k0_dev4 c, k0_dev4_lt c⟩ : Dev nD) = peer c 4 := by decide +kernel
/-- The printed target of signal 5 is the device so many places on. -/
theorem dev_eq5 : ∀ c : Dev nD, (⟨k0_dev5 c, k0_dev5_lt c⟩ : Dev nD) = peer c 5 := by decide +kernel
/-- The printed target of signal 6 is the device so many places on. -/
theorem dev_eq6 : ∀ c : Dev nD, (⟨k0_dev6 c, k0_dev6_lt c⟩ : Dev nD) = peer c 6 := by decide +kernel
/-- The printed target of signal 7 is the device so many places on. -/
theorem dev_eq7 : ∀ c : Dev nD, (⟨k0_dev7 c, k0_dev7_lt c⟩ : Dev nD) = peer c 7 := by decide +kernel
/-- The printed target of send 1 is the device so many places on. -/
theorem dev_eq8 : ∀ c : Dev nD, (⟨k0_dev8 c, k0_dev8_lt c⟩ : Dev nD) = peer c 1 := by decide +kernel
/-- The printed target of send 2 is the device so many places on. -/
theorem dev_eq9 : ∀ c : Dev nD, (⟨k0_dev9 c, k0_dev9_lt c⟩ : Dev nD) = peer c 2 := by decide +kernel
/-- The printed target of send 3 is the device so many places on. -/
theorem dev_eq10 : ∀ c : Dev nD, (⟨k0_dev10 c, k0_dev10_lt c⟩ : Dev nD) = peer c 3 := by decide +kernel
/-- The printed target of send 4 is the device so many places on. -/
theorem dev_eq11 : ∀ c : Dev nD, (⟨k0_dev11 c, k0_dev11_lt c⟩ : Dev nD) = peer c 4 := by decide +kernel
/-- The printed target of send 5 is the device so many places on. -/
theorem dev_eq12 : ∀ c : Dev nD, (⟨k0_dev12 c, k0_dev12_lt c⟩ : Dev nD) = peer c 5 := by decide +kernel
/-- The printed target of send 6 is the device so many places on. -/
theorem dev_eq13 : ∀ c : Dev nD, (⟨k0_dev13 c, k0_dev13_lt c⟩ : Dev nD) = peer c 6 := by decide +kernel
/-- The printed target of send 7 is the device so many places on. -/
theorem dev_eq14 : ∀ c : Dev nD, (⟨k0_dev14 c, k0_dev14_lt c⟩ : Dev nD) = peer c 7 := by decide +kernel

/-- The rows that go to the device `d` places on. -/
theorem off4_eq : ∀ (c : Dev nD) (d : Fin 8), d ≠ 0 → k0_off4 c (BitVec.ofNat 32 d.val) = ![512 * (peer c d).val, 0] := by
  decide +kernel
/-- The rows of send 1. -/
theorem off4_eq1 (c : Dev nD) : k0_off4 c 1#32 = ![512 * (peer c 1).val, 0] := off4_eq c 1 (by decide)
/-- The rows of send 2. -/
theorem off4_eq2 (c : Dev nD) : k0_off4 c 2#32 = ![512 * (peer c 2).val, 0] := off4_eq c 2 (by decide)
/-- The rows of send 3. -/
theorem off4_eq3 (c : Dev nD) : k0_off4 c 3#32 = ![512 * (peer c 3).val, 0] := off4_eq c 3 (by decide)
/-- The rows of send 4. -/
theorem off4_eq4 (c : Dev nD) : k0_off4 c 4#32 = ![512 * (peer c 4).val, 0] := off4_eq c 4 (by decide)
/-- The rows of send 5. -/
theorem off4_eq5 (c : Dev nD) : k0_off4 c 5#32 = ![512 * (peer c 5).val, 0] := off4_eq c 5 (by decide)
/-- The rows of send 6. -/
theorem off4_eq6 (c : Dev nD) : k0_off4 c 6#32 = ![512 * (peer c 6).val, 0] := off4_eq c 6 (by decide)
/-- The rows of send 7. -/
theorem off4_eq7 (c : Dev nD) : k0_off4 c 7#32 = ![512 * (peer c 7).val, 0] := off4_eq c 7 (by decide)

/-- Every device is the device itself or one of the seven after it. -/
theorem bigSep_peers (c : Dev nD) (Φ : Dev nD → sProp 𝕄) :
    bigSep Finset.univ Φ = iprop(Φ (peer c 0) ∗ Φ (peer c 1) ∗ Φ (peer c 2) ∗ Φ (peer c 3) ∗ Φ (peer c 4) ∗ Φ (peer c 5) ∗ Φ (peer c 6) ∗ Φ (peer c 7)) :=
  bigSep_univ_eq_bigSepL [peer c 0, peer c 1, peer c 2, peer c 3, peer c 4, peer c 5, peer c 6, peer c 7]
    (by revert c; decide) (by revert c; decide) Φ
/-- A family over the other devices is the seven peers, one by one. -/
theorem bigSep_others (c : Dev nD) (Φ : Dev nD → sProp 𝕄) :
    bigSep (Finset.univ.erase c) Φ = iprop(Φ (peer c 1) ∗ Φ (peer c 2) ∗ Φ (peer c 3) ∗ Φ (peer c 4) ∗ Φ (peer c 5) ∗ Φ (peer c 6) ∗ Φ (peer c 7)) :=
  bigSep_eq_bigSepL_of_eq [peer c 1, peer c 2, peer c 3, peer c 4, peer c 5, peer c 6, peer c 7]
    (by revert c; decide) (by revert c; decide) Φ
/-- A family over eight, one by one. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A family over two, one by one. -/
theorem bigSep_fin2 (Φ : Fin 2 → sProp 𝕄) : bigSep Finset.univ Φ = iprop(Φ 0 ∗ Φ 1) :=
  bigSep_univ_eq_bigSepL [0, 1] (by decide) (by decide) Φ

/-! ## Buffers and their blocks -/

abbrev xM : Memref sig .tc .vmem S4096x512 .i8 := Memref.whole cc0_stg0_0
abbrev wM : Memref sig .tc .hbm S4096x8192 .i8 := Memref.whole main_arg1
abbrev oM : Memref sig .tc .vmem S512x8192 .f32 := Memref.whole cc0_stg3_0
abbrev cM : Memref sig .tc .vmem S8x512x512 .i8 := Memref.whole cc0_scratch0
abbrev bufM : Memref sig .tc .vmem S2x512x8192 .i8 := Memref.whole cc0_scratch1
abbrev bfM : Memref sig .tc .vmem S2x512x8192 .bf16 := Memref.whole cc0_scratch2

/-- The row blocks of `x`, and below those of `w` and the slots, lie inside their buffers. -/
theorem xr_inb (b : Fin 8) : ∀ a, (![512 * b.val, 0] : Fin 2 → ℕ) a + S512x512.size a ≤ S4096x512.size a := by revert b; decide
/-- The row blocks of `w` lie inside it. -/
theorem wr_inb (b : Fin 8) : ∀ a, (![512 * b.val, 0] : Fin 2 → ℕ) a + S512x8192.size a ≤ S4096x8192.size a := by revert b; decide
/-- The slots lie inside the landing buffer. -/
theorem cr_inb (b : Fin 8) : ∀ a, (![b.val, 0, 0] : Fin 3 → ℕ) a + S1x512x512.size a ≤ S8x512x512.size a := by revert b; decide
/-- The slots lie inside the two-slot buffers. -/
theorem sr_inb (b : Fin 2) : ∀ a, (![b.val, 0, 0] : Fin 3 → ℕ) a + S1x512x8192.size a ≤ S2x512x8192.size a := by revert b; decide

/-- Row block `b` of `x`'s columns. -/
abbrev xr (b : Fin 8) : Rect S4096x512 := Rect.unit (s := S4096x512) ![512 * b.val, 0] S512x512.size (xr_inb b)
/-- Row block `b` of `w`. -/
abbrev wr (b : Fin 8) : Rect S4096x8192 := Rect.unit (s := S4096x8192) ![512 * b.val, 0] S512x8192.size (wr_inb b)
/-- Slot `b` of the landing buffer. -/
abbrev cr (b : Fin 8) : Rect S8x512x512 := Rect.unit (s := S8x512x512) ![b.val, 0, 0] S1x512x512.size (cr_inb b)
/-- Slot `b` of the two-slot buffers. -/
abbrev sr (b : Fin 2) : Rect S2x512x8192 := Rect.unit (s := S2x512x8192) ![b.val, 0, 0] S1x512x8192.size (sr_inb b)

/-! ## Semaphores -/

/-- The runtime's barrier semaphore. -/
abbrev barS : Sem sig := (SemArray.scalar (sig.barrier 0 rfl) : Sems sig S_).sem
abbrev sendSem (d : Fin 8) : DmaSem sig := ⟨4 + d.val, by have := d.isLt; show 4 + d.val < 22; omega⟩
abbrev recvSem (j : Fin 8) : DmaSem sig := ⟨12 + j.val, by have := j.isLt; show 12 + j.val < 22; omega⟩
abbrev wSem (s : Fin 2) : DmaSem sig := ⟨20 + s.val, by have := s.isLt; show 20 + s.val < 22; omega⟩

abbrev barCell (c : Dev nD) : GSem nD τ sig := ((c : Thread nD τ), .reg barS)
abbrev sendCell (c : Dev nD) (d : Fin 8) : GSem nD τ sig := ((c : Thread nD τ), .dma (sendSem d))
abbrev recvCell (c : Dev nD) (j : Fin 8) : GSem nD τ sig := ((c : Thread nD τ), .dma (recvSem j))
abbrev wCell (c : Dev nD) (s : Fin 2) : GSem nD τ sig := ((c : Thread nD τ), .dma (wSem s))

/-- The semaphore the program reads out of an array by its position, and below the same for the other arrays. -/
theorem send_at {off : Fin 1 → ℕ} {d : Fin 8} (h : off = ![d.val]) (inb : ∀ a, off a + S1.size a ≤ S8.size a) :
    (((cc0_scratch3.slice (Rect.unit (s := S8) off S1.size inb)).squeeze S_ squeezes_S1_S_) : DmaSems sig S_).sem = sendSem d := by
  subst h; revert inb; revert d; decide
/-- The same for the landing semaphores. -/
theorem recv_at {off : Fin 1 → ℕ} {d : Fin 8} (h : off = ![d.val]) (inb : ∀ a, off a + S1.size a ≤ S8.size a) :
    (((cc0_scratch4.slice (Rect.unit (s := S8) off S1.size inb)).squeeze S_ squeezes_S1_S_) : DmaSems sig S_).sem = recvSem d := by
  subst h; revert inb; revert d; decide
/-- The same for the semaphores of `w`'s copies. -/
theorem w_at {off : Fin 1 → ℕ} {d : Fin 2} (h : off = ![d.val]) (inb : ∀ a, off a + S1.size a ≤ S2.size a) :
    (((cc0_scratch5.slice (Rect.unit (s := S2) off S1.size inb)).squeeze S_ squeezes_S1_S_) : DmaSems sig S_).sem = wSem d := by
  subst h; revert inb; revert d; decide

/-! ## Squeezed slots -/

/-- Contents of a shape as contents of the shape with axes of size one put in. -/
def unsq {s s' : Shape} (h : s.Squeezes s') {α : Type} (Y : s'.Idx → α) : s.Idx → α :=
  fun j => Y ((Shape.reshapeEquiv h.numel_eq).symm j)

omit [FloatOps F] in
/-- Owning a squeezed memref is owning the memref itself. -/
theorem owns_unsq (c : Dev nD) {sp : Space} {s s' : Shape} {e : EltTy} (M : Memref sig .tc sp s e) (h : s.Squeezes s')
    (q : PosShare TreeShare) (Y : s'.Idx → Elt F e) :
    (owns (c : Thread nD τ) (M.squeeze s' h) q Y : sProp 𝕄) = owns (c : Thread nD τ) M q (unsq h Y) := by
  have hp : ∀ f, ((M.squeeze s' h).view.read (Elt F) f = Y) = (M.view.read (Elt F) f = unsq h Y) := fun f => propext
    ⟨fun H => by
      funext j
      have h1 := congrFun H ((Shape.reshapeEquiv h.numel_eq).symm j)
      unfold unsq; rw [← h1]
      show _ = M.view.read (Elt F) f (Shape.reshapeEquiv h.numel_eq ((Shape.reshapeEquiv h.numel_eq).symm j))
      rw [Equiv.apply_symm_apply],
     fun H => by
      funext j
      show M.view.read (Elt F) f (Shape.reshapeEquiv h.numel_eq j) = Y j
      rw [H]; unfold unsq; rw [Equiv.symm_apply_apply]⟩
  unfold owns
  simp only [hp, Memref.view_squeeze, View.set_reshape]

omit [FloatOps F] in
/-- A squeezed memref's elements are the memref's. -/
theorem pts_unsq (c : Dev nD) {sp : Space} {s s' : Shape} {e : EltTy} (M : Memref sig .tc sp s e) (h : s.Squeezes s')
    (q : PosShare TreeShare) (f : Buf (Elt F) (M.view.loc (c : Thread nD τ))) :
    (M.view.loc (c : Thread nD τ) ↦[M.view.set]{q} f : sProp 𝕄)
      = ((M.squeeze s' h).view.loc (c : Thread nD τ) ↦[(M.squeeze s' h).view.set]{q} f) :=
  congrArg (fun S => (M.view.loc (c : Thread nD τ) ↦[S]{q} f : sProp 𝕄)) (View.set_reshape M.view h.numel_eq).symm

omit [FloatOps F] in
/-- Elements just written are owned at what was written. -/
theorem owns_written (c : Dev nD) {sp : Space} {s : Shape} {e : EltTy} (M : Memref sig .tc sp s e)
    (f : Buf (Elt F) (M.view.loc (c : Thread nD τ))) (w : s.Idx → Elt F e) :
    (M.view.loc (c : Thread nD τ) ↦[M.view.set]{fullShare} (M.view.write (Elt F) f w Finset.univ) : sProp 𝕄)
      ⊢ owns (c : Thread nD τ) M fullShare w :=
  (owns_intro (c : Thread nD τ) M fullShare (M.view.write (Elt F) f w Finset.univ)).trans
    (Entails.of_eq (congrArg (fun X => owns (c : Thread nD τ) M fullShare X) (View.read_write_univ f w)))

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- What device `c`'s staging buffer of `x` holds: its columns of `x`. -/
def xstg (c : Dev nD) : (cc0_stg0_0 : Ref sig .tc).ty.Contents (Elt F) :=
  (win0_0.blk (0 : Fin 1)).view.read (Elt F) (m ((c : Thread nD τ).loc main_arg0))
/-- The two scales as staged. -/
def sxstg (c : Dev nD) : (cc0_stg1_0 : Ref sig .tc).ty.Contents (Elt F) :=
  (win0_1.blk (0 : Fin 1)).view.read (Elt F) (m ((c : Thread nD τ).loc main_arg2))
/-- The second scale as staged. -/
def swstg (c : Dev nD) : (cc0_stg2_0 : Ref sig .tc).ty.Contents (Elt F) :=
  (win0_2.blk (0 : Fin 1)).view.read (Elt F) (m ((c : Thread nD τ).loc main_arg3))

/-- Row block `b` of device `c`'s columns of `x`. -/
def xblk (c : Dev nD) (b : Fin 8) : S512x512.Idx → Elt F .i8 := fun i => xstg m c ((xr b).emb i)
/-- Row block `b` of device `c`'s `w`. -/
def wblk (c : Dev nD) (b : Fin 8) : S512x8192.Idx → Elt F .i8 := fun i => m ((c : Thread nD τ).loc main_arg1) ((wr b).emb i)

/-- The same two as a slot of a buffer holds them. -/
def cB (c : Dev nD) (j : Fin 8) : S1x512x512.Idx → Elt F .i8 := unsq squeezes_S1x512x512_S512x512 (xblk m j c)
/-- A row block of `w` as a slot holds it. -/
def wS (c : Dev nD) (b : Fin 8) : S1x512x8192.Idx → Elt F .i8 := unsq squeezes_S1x512x8192_S512x8192 (wblk m c b)
/-- Row block `b` of `w` after the conversion. -/
def wB (c : Dev nD) (b : Fin 8) : S1x512x8192.Idx → Elt F .bf16 := k0_pay1 (wS m c b)

/-- The running sum after each of the eight products. -/
def acc0 (c : Dev nD) : S512x8192.Idx → Elt F .f32 := k0_pay3 (cB m c 0) (wB m c 0)
/-- After product 1. -/
def acc1 (c : Dev nD) : S512x8192.Idx → Elt F .f32 := k0_pay5 (cB m c 1) (wB m c 1) (acc0 m c)
/-- After product 2. -/
def acc2 (c : Dev nD) : S512x8192.Idx → Elt F .f32 := k0_pay5 (cB m c 2) (wB m c 2) (acc1 m c)
/-- After product 3. -/
def acc3 (c : Dev nD) : S512x8192.Idx → Elt F .f32 := k0_pay5 (cB m c 3) (wB m c 3) (acc2 m c)
/-- After product 4. -/
def acc4 (c : Dev nD) : S512x8192.Idx → Elt F .f32 := k0_pay5 (cB m c 4) (wB m c 4) (acc3 m c)
/-- After product 5. -/
def acc5 (c : Dev nD) : S512x8192.Idx → Elt F .f32 := k0_pay5 (cB m c 5) (wB m c 5) (acc4 m c)
/-- After product 6. -/
def acc6 (c : Dev nD) : S512x8192.Idx → Elt F .f32 := k0_pay5 (cB m c 6) (wB m c 6) (acc5 m c)
/-- After product 7. -/
def acc7 (c : Dev nD) : S512x8192.Idx → Elt F .f32 := k0_pay5 (cB m c 7) (wB m c 7) (acc6 m c)

/-- The one element of a scale. -/
def elt1 (X : S1.Idx → Elt F .f32) : Elt F .f32 := X (Shape.Idx.first (by decide))

/-- The kernel's result on device `c`. -/
def outAt (c : Dev nD) : S512x8192.Idx → Elt F .f32 := k0_pay18 (elt1 (sxstg m c)) (elt1 (swstg m c)) (acc7 m c)

/-! ## What is held of each buffer -/

/-- Row block `b` of the staged `x`. -/
def xO (c : Dev nD) (b : Fin 8) : sProp 𝕄 := owns (c : Thread nD τ) (xM.slice (xr b) (fun _ => rfl)) fullShare (xblk m c b)
/-- Slot `j` of device `c`'s landing buffer. -/
def cmO (c : Dev nD) (j : Fin 8) (X : S1x512x512.Idx → Elt F .i8) : sProp 𝕄 :=
  owns (c : Thread nD τ) (cM.slice (cr j) (fun _ => rfl)) fullShare X
/-- Row block `b` of `w`. -/
def wO (c : Dev nD) (b : Fin 8) : sProp 𝕄 := owns (c : Thread nD τ) (wM.slice (wr b) (fun _ => rfl)) fullShare (wblk m c b)
/-- A slot of the buffer `w` comes through. -/
def bufO (c : Dev nD) (s : Fin 2) (X : S1x512x8192.Idx → Elt F .i8) : sProp 𝕄 :=
  owns (c : Thread nD τ) (bufM.slice (sr s) (fun _ => rfl)) fullShare X
/-- A slot of the converted buffer. -/
def bfO (c : Dev nD) (s : Fin 2) (X : S1x512x8192.Idx → Elt F .bf16) : sProp 𝕄 :=
  owns (c : Thread nD τ) (bfM.slice (sr s) (fun _ => rfl)) fullShare X
/-- The staged result, and the two staged scales. -/
def oO (c : Dev nD) (Y : S512x8192.Idx → Elt F .f32) : sProp 𝕄 := ((c : Thread nD τ).loc cc0_stg3_0) ↦{fullShare} Y
/-- The staged first scale. -/
def sxO (c : Dev nD) : sProp 𝕄 := ((c : Thread nD τ).loc cc0_stg1_0) ↦{fullShare} sxstg m c
/-- The staged second scale. -/
def swO (c : Dev nD) : sProp 𝕄 := ((c : Thread nD τ).loc cc0_stg2_0) ↦{fullShare} swstg m c

instance xO_storable (c : Dev nD) (b : Fin 8) : BI.Storable (upEmb : UEmb _ 𝕄) (xO m c b) := by unfold xO; infer_instance
instance cmO_storable (c : Dev nD) (j : Fin 8) (X) : BI.Storable (upEmb : UEmb _ 𝕄) (cmO (F := F) c j X) := by unfold cmO; infer_instance

/-! ## The schedule -/

/-- What a whole transfer of one block counts on its semaphore. -/
def N : ℕ := ((cM.slice (cr 0) (fun _ => rfl)).squeeze S512x512 squeezes_S1x512x512_S512x512).view.dmaCredit
/-- A block counts something. -/
theorem N_pos : 0 < N := View.dmaCredit_pos _ (by decide)
/-- A slot counts one block. -/
theorem credit_c (j : Fin 8) : ((cM.slice (cr j) (fun _ => rfl)).squeeze S512x512 squeezes_S1x512x512_S512x512).view.dmaCredit = N := rfl
/-- A row block of `x` counts one block. -/
theorem credit_x (b : Fin 8) : (xM.slice (xr b) (fun _ => rfl)).view.dmaCredit = N := rfl

/-- Device `e`'s signal hands `c` the slot `c` of `e`'s landing buffer. -/
def barPay (c e : Dev nD) : sProp 𝕄 := iprop(∃ X, cmO (F := F) e c X)
/-- What the local copy's landing gives back beside the slot. -/
def retX (c : Dev nD) (j : Fin 8) : sProp 𝕄 := if j = c then xO m c c else iprop(emp)
/-- A landing in slot `j`: the slot with device `j`'s block. -/
def recvPay (c : Dev nD) (j : Fin 8) : sProp 𝕄 := iprop(cmO c j (cB m c j) ∗ retX m c j)
/-- A departure: the block sent is the core's again. -/
def sendPay (c : Dev nD) (d : Fin 8) : sProp 𝕄 := xO m c (peer c d)

instance retX_storable (c : Dev nD) (j : Fin 8) : BI.Storable (upEmb : UEmb _ 𝕄) (retX m c j) := by
  unfold retX; split <;> infer_instance

/-- The block number of a transfer semaphore. -/
def low8 (n : ℕ) : Fin 8 := ⟨n % 8, Nat.mod_lt _ (by decide)⟩

/-- One round: a barrier cell has a duty for every other device, of one unit; a send or receive cell one duty of the
    block's credit. -/
def Rd : Rounds.Schedule (GSem nD τ sig) (Fin 8) 𝕄 where
  duties g r := if r = 0 ∧ g.1.2 = .tc then
      (match g.2 with
        | .reg _ => Finset.univ.erase g.1.1
        | .dma q => if 4 ≤ q.val ∧ q.val < 20 then {0} else ∅)
    else ∅
  unitless _ := False
  amount g _ _ := match g.2 with | .reg _ => 1 | .dma _ => N
  payload g _ d := match g.2 with
    | .reg _ => barPay g.1.1 d
    | .dma q => if 12 ≤ q.val then recvPay m g.1.1 (low8 (q.val - 12)) else sendPay m g.1.1 (low8 (q.val - 4))
  amount_pos g _ _ _ := by
    split
    · exact Nat.one_pos
    · exact N_pos

instance Rd_storable (g : GSem nD τ sig) (r : ℕ) (d : Fin 8) : BI.Storable (upEmb : UEmb _ 𝕄) ((Rd (F := F) m).payload g r d) := by
  dsimp only [Rd]
  split
  · unfold barPay; infer_instance
  · unfold recvPay sendPay; split <;> infer_instance

section Sched
variable (c : Dev nD)

/-- The barrier cell is paid by every device but its own, and below: what each of the cells is paid, by whom, and with what. -/
theorem duties_bar : (Rd (F := F) m).duties (barCell c) 0 = Finset.univ.erase c := by dsimp only [Rd]; exact if_pos ⟨rfl, rfl⟩
/-- A departure is paid once. -/
theorem duties_send (d : Fin 8) : (Rd (F := F) m).duties (sendCell c d) 0 = {0} := by
  dsimp only [Rd]; rw [if_pos ⟨rfl, rfl⟩]; exact if_pos ⟨by omega, by omega⟩
/-- A landing is paid once. -/
theorem duties_recv (d : Fin 8) : (Rd (F := F) m).duties (recvCell c d) 0 = {0} := by
  dsimp only [Rd]; rw [if_pos ⟨rfl, rfl⟩]; exact if_pos ⟨by omega, by omega⟩
/-- After the first round nobody pays. -/
theorem duties_later (g : GSem nD τ sig) : ∀ r, 1 ≤ r → (Rd (F := F) m).duties g r = ∅ :=
  fun r hr => by dsimp only [Rd]; exact if_neg fun h => by omega
/-- A signal pays one unit. -/
theorem amount_bar (d : Fin 8) : (Rd (F := F) m).amount (barCell c) 0 d = 1 := rfl
/-- A departure pays a block. -/
theorem amount_send (d e : Fin 8) : (Rd (F := F) m).amount (sendCell c d) 0 e = N := rfl
/-- A landing pays a block. -/
theorem amount_recv (d e : Fin 8) : (Rd (F := F) m).amount (recvCell c d) 0 e = N := rfl
/-- The barrier expects seven units. -/
theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _)]
  rfl
/-- A departure cell expects a block. -/
theorem expect_send (d : Fin 8) : (Rd (F := F) m).expect (sendCell c d) 0 = N := by
  unfold Schedule.expect Schedule.amountOf; rw [duties_send, Finset.sum_singleton, amount_send]
/-- A landing cell expects a block. -/
theorem expect_recv (d : Fin 8) : (Rd (F := F) m).expect (recvCell c d) 0 = N := by
  unfold Schedule.expect Schedule.amountOf; rw [duties_recv, Finset.sum_singleton, amount_recv]
/-- Counting down and back. -/
theorem low8_sub (k : ℕ) (d : Fin 8) : low8 (k + d.val - k) = d := Fin.ext (by
  show (k + d.val - k) % 8 = d.val; rw [Nat.add_sub_cancel_left, Nat.mod_eq_of_lt d.isLt])
/-- What a signal hands over. -/
theorem payload_bar (d : Fin 8) : (Rd (F := F) m).payload (barCell c) 0 d = barPay c d := rfl
/-- What a departure hands over. -/
theorem payload_send (d e : Fin 8) : (Rd (F := F) m).payload (sendCell c d) 0 e = sendPay m c d := by
  dsimp only [Rd]; rw [if_neg (by have := d.isLt; omega), low8_sub]
/-- What a landing hands over. -/
theorem payload_recv (d e : Fin 8) : (Rd (F := F) m).payload (recvCell c d) 0 e = recvPay m c d := by
  dsimp only [Rd]; rw [if_pos (by omega), low8_sub]
/-- What all seven signals hand over. -/
theorem rest_bar : bigSep ((Rd (F := F) m).duties (barCell c) 0 \ ∅) (fun d => (Rd (F := F) m).payload (barCell c) 0 d)
    = iprop(barPay c (peer c 1) ∗ barPay c (peer c 2) ∗ barPay c (peer c 3) ∗ barPay c (peer c 4) ∗ barPay c (peer c 5)
        ∗ barPay c (peer c 6) ∗ barPay c (peer c 7)) := by
  rw [Finset.sdiff_empty, duties_bar]; exact bigSep_others c _
/-- What the departure hands over, as the only payment. -/
theorem rest_send (d : Fin 8) : bigSep ((Rd (F := F) m).duties (sendCell c d) 0 \ ∅) (fun e => (Rd (F := F) m).payload (sendCell c d) 0 e) = sendPay m c d := by
  rw [Finset.sdiff_empty, duties_send, bigSep_singleton, payload_send]
/-- What the landing hands over, as the only payment. -/
theorem rest_recv (d : Fin 8) : bigSep ((Rd (F := F) m).duties (recvCell c d) 0 \ ∅) (fun e => (Rd (F := F) m).payload (recvCell c d) 0 e) = recvPay m c d := by
  rw [Finset.sdiff_empty, duties_recv, bigSep_singleton, payload_recv]

end Sched

/-! ## What a device owes, and the order of the waits -/

/-- The transfers still to be sent when `n` of the seven are left. -/
def oS (c : Dev nD) : ℕ → CellTallies nD τ sig Unit
  | 0 => 0
  | n + 1 => oS c n + tallyAt (recvCell (peer c (low8 (7 - n))) c) () N
/-- The same and the signals still to be given when `n` of the seven are left. -/
def oB (c : Dev nD) : ℕ → CellTallies nD τ sig Unit
  | 0 => oS c 7
  | n + 1 => oB c n + tallyAt (barCell (peer c (low8 (7 - n)))) () 1

/-- What a device owes at launch: seven signals and seven landings. -/
def O₀ (c : Dev nD) : CellTallies nD τ sig Unit := oB c 7

/-- The cells that have levels: those of the cores that run the kernel. -/
def L (g : GSem nD τ sig) : Finset Unit := if g.1.2 = .tc then {()} else ∅
/-- Barrier cells below receive cells, everything else below both. -/
def lv (g : GSem nD τ sig) (_ : Unit) : ℕ := match g.2 with | .reg _ => 1 | .dma q => if 12 ≤ q.val ∧ q.val < 20 then 2 else 0

/-- No level elsewhere. -/
theorem L_of_ne (g : GSem nD τ sig) (h : g.1.2 ≠ .tc) : L g = ∅ := if_neg h
/-- Every cell of a core that runs the kernel has a level. -/
theorem L_tc (c : Dev nD) (sm : SemLoc sig) : L ((c : Thread nD τ), sm) = {()} := if_pos rfl

/-- A tally at one cell is positive only there. -/
theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

/-- Owed landings are at landing cells. -/
theorem oS_pos {c : Dev nD} {n : ℕ} {g : GSem nD τ sig} {u : Unit} (h : 0 < oS c n g u) : ∃ e : Dev nD, g = recvCell e c := by
  induction n with
  | zero => exact absurd h (Nat.lt_irrefl 0)
  | succ n ih =>
    unfold oS at h
    rw [Pi.add_apply, Finsupp.add_apply] at h
    rcases Nat.eq_zero_or_pos (oS c n g u) with h0 | h0
    · rw [h0, Nat.zero_add] at h; exact ⟨_, tally_pos h⟩
    · exact ih h0

/-- What is owed is at barrier cells or landing cells. -/
theorem oB_pos {c : Dev nD} {n : ℕ} {g : GSem nD τ sig} {u : Unit} (h : 0 < oB c n g u) :
    ∃ e : Dev nD, g = recvCell e c ∨ g = barCell e := by
  induction n with
  | zero => obtain ⟨e, he⟩ := oS_pos (n := 7) h; exact ⟨e, Or.inl he⟩
  | succ n ih =>
    unfold oB at h
    rw [Pi.add_apply, Finsupp.add_apply] at h
    rcases Nat.eq_zero_or_pos (oB c n g u) with h0 | h0
    · rw [h0, Nat.zero_add] at h; exact ⟨_, Or.inr (tally_pos h)⟩
    · exact ih h0

/-- The level of a landing cell. -/
theorem lv_recv (e : Dev nD) (j : Fin 8) (u : Unit) : lv (recvCell e j) u = 2 := by
  have := j.isLt
  dsimp only [lv]; exact if_pos ⟨by omega, by omega⟩

/-- A device may wait on a semaphore below the barrier's whatever it owes. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨e, rfl | rfl⟩ := oB_pos hg <;> exact Finset.mem_singleton_self _)
      (fun p hp => by rw [Finset.mem_singleton.mp hp]; dsimp only [lv]; rw [if_neg (by omega)])
      (fun g u hg => by
        obtain ⟨e, rfl | rfl⟩ := oB_pos hg
        · rw [lv_recv]; decide
        · exact Nat.one_pos)
  · rw [MayWait_zero]; iintro -; iempintro

/-- At its barrier wait a device owes landings only, which are above. -/
theorem mayWait_bar (c : Dev nD) : (levAts L lv : sProp 𝕄) ⊢ MayWait (c : Thread nD τ) (.reg barS) () (oS c 7) :=
  MayOwe.of_cut (L := L) (lev := lv) 1 (fun p hp => by rw [Finset.mem_singleton.mp hp, L_tc]; exact Finset.mem_singleton_self _)
    (fun g u hg => by obtain ⟨e, rfl⟩ := oS_pos hg; exact Finset.mem_singleton_self _)
    (fun p hp => by rw [Finset.mem_singleton.mp hp]; exact Nat.le_refl _)
    (fun g u hg => by obtain ⟨e, rfl⟩ := oS_pos hg; rw [lv_recv]; decide)

end Cert.Mesh

end
-- ==== Proof.Steps.lean ====
/-
# One rule for each kind of statement of the kernel

Every rule is stated for what this kernel's core holds: the blocks and slots of `Common`, the tokens of its duties, and
what it owes.  Offsets and semaphores are variables with an equation, so a rule applies to the program's own spelling.
-/
module

public import proofs.«01_k».proof.Proof.Common

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells' shared records -/

/-- A device's sixteen cells: its barrier, its seven departures, its eight landings. -/
def csem (k : Fin 16) : SemLoc sig := if k.val = 0 then .reg barS else .dma ⟨4 + k.val, by have := k.isLt; show 4 + k.val < 22; omega⟩
abbrev kcell (ck : Dev nD × Fin 16) : GSem nD τ sig := ((ck.1 : Thread nD τ), csem ck.2)
abbrev kS (d : Fin 8) : Fin 16 := ⟨d.val, by omega⟩
abbrev kR (j : Fin 8) : Fin 16 := ⟨8 + j.val, by omega⟩

/-- The cell with number 0 is the barrier's, and below: which cell has which number. -/
theorem kcell_bar (c : Dev nD) : kcell (c, 0) = barCell c := rfl
/-- The number of a departure cell. -/
theorem kcell_send (c : Dev nD) (d : Fin 8) (hd : d ≠ 0) : kcell (c, kS d) = sendCell c d := by
  show ((c : Thread nD τ), csem (kS d)) = _
  unfold csem; rw [if_neg (show ¬ (kS d).val = 0 from fun h => hd (Fin.ext h))]
/-- The number of a landing cell. -/
theorem kcell_recv (c : Dev nD) (j : Fin 8) : kcell (c, kR j) = recvCell c j := by
  show ((c : Thread nD τ), csem (kR j)) = _
  unfold csem; rw [if_neg (fun h => by simp at h)]
  exact congrArg (fun q => ((c : Thread nD τ), SemLoc.dma q)) (Fin.ext (by show 4 + (8 + j.val) = 12 + j.val; omega))

/-- Every cell's invariant, under the name it was allocated at, and that every cell is at round 0 or later. -/
def records (K : Dev nD × Fin 16 → ℕ) : sProp 𝕄 :=
  iprop((bigSep Finset.univ fun ck : Dev nD × Fin 16 => cellInv ER (Rd m) (K ck) (kcell ck))
    ∗ bigSep Finset.univ fun ck : Dev nD × Fin 16 => reached ER (kcell ck) 0)

instance records_persistent (K : Dev nD × Fin 16 → ℕ) : BI.Persistent (records m K) := by unfold records; infer_instance

/-- A cell's record out of all records. -/
theorem rec_at (K : Dev nD × Fin 16 → ℕ) (ck : Dev nD × Fin 16) (g : GSem nD τ sig) (hg : kcell ck = g) :
    records m K ⊢ iprop(cellInv ER (Rd m) (K ck) g ∗ reached ER g 0) := by
  subst hg
  unfold records
  exact BI.sep_mono (bigSep_elim (Finset.mem_univ ck)) (bigSep_elim (Finset.mem_univ ck))

variable (K : Dev nD × Fin 16 → ℕ)

/-- The record of a barrier cell, and below of the other cells. -/
theorem rec_bar (c : Dev nD) : records m K ⊢ iprop(cellInv ER (Rd m) (K (c, 0)) (barCell c) ∗ reached ER (barCell c) 0) :=
  rec_at m K (c, 0) _ (kcell_bar c)
/-- The record of a departure cell. -/
theorem rec_send (c : Dev nD) (d : Fin 8) (hd : d ≠ 0) :
    records m K ⊢ iprop(cellInv ER (Rd m) (K (c, kS d)) (sendCell c d) ∗ reached ER (sendCell c d) 0) :=
  rec_at m K (c, kS d) _ (kcell_send c d hd)
/-- The record of a landing cell. -/
theorem rec_recv (c : Dev nD) (j : Fin 8) :
    records m K ⊢ iprop(cellInv ER (Rd m) (K (c, kR j)) (recvCell c j) ∗ reached ER (recvCell c j) 0) :=
  rec_at m K (c, kR j) _ (kcell_recv c j)

/-! ## What the core holds between statements -/

/-- What it owes, whatever it has waited for. -/
def ow (c : Dev nD) (O : CellTallies nD τ sig Unit) : sProp 𝕄 := iprop(∃ W, owes (c : Thread nD τ) O W)
/-- What a signal takes. -/
def sigR (c : Dev nD) (d : Fin 8) : sProp 𝕄 := iprop(dutyTok ER (barCell (peer c d)) 0 c ∗ barPay (F := F) (peer c d) c)
/-- What a transfer takes, but the slot it lands in. -/
def sendR (c : Dev nD) (d : Fin 8) : sProp 𝕄 :=
  iprop(dutyTok ER (recvCell (peer c d) c) 0 0 ∗ dutyTok ER (sendCell c d) 0 0 ∗ xO m c (peer c d))
/-- The credit of a departure or landing and the core's place at the cell. -/
def credS (c : Dev nD) (d : Fin 8) : sProp 𝕄 := cred (tallyAt (sendCell c d) () N)
/-- The block expected at a landing cell. -/
def credR (c : Dev nD) (j : Fin 8) : sProp 𝕄 := cred (tallyAt (recvCell c j) () N)
/-- A device's place at a departure cell. -/
def posS (c : Dev nD) (d : Fin 8) (r : ℕ) : sProp 𝕄 := atPos ER (sendCell c d) r ∅ 0
/-- A device's place at a landing cell. -/
def posR (c : Dev nD) (j : Fin 8) (r : ℕ) : sProp 𝕄 := atPos ER (recvCell c j) r ∅ 0
/-- A device's place at the barrier cell. -/
def posB (c : Dev nD) (r : ℕ) : sProp 𝕄 := atPos ER (barCell c) r ∅ 0

/-- What a transfer of a row block of `w` counts. -/
def NW : ℕ := ((bufM.slice (sr 0) (fun _ => rfl)).squeeze S512x8192 squeezes_S1x512x8192_S512x8192).view.dmaCredit
/-- A row block of `w` counts something. -/
theorem NW_pos : 0 < NW := View.dmaCredit_pos _ (by decide)
/-- A slot of the buffer of `w` counts one of its blocks. -/
theorem credit_w (s : Fin 2) : ((bufM.slice (sr s) (fun _ => rfl)).squeeze S512x8192 squeezes_S1x512x8192_S512x8192).view.dmaCredit = NW := rfl

/-- A semaphore of `w`'s transfers with nothing in flight. -/
def wFree (c : Dev nD) (s : Fin 2) : sProp 𝕄 := semVal (wCell c s) 0
/-- Row block `b` of `w` on its way to slot `s`. -/
def wFly (c : Dev nD) (s : Fin 2) (b : Fin 8) : sProp 𝕄 :=
  Transfers.Flight countersEmb (c : Thread nD τ) (.dma (wSem s)) () NW iprop(bufO c s (wS m c b) ∗ wO m c b)

/-! ## What a landed transfer has written -/

omit m in
/-- What a landing leaves in a slot. -/
theorem land_c (e : Dev nD) (j : Fin 8) (fd : Buf (Elt F) ((e : Thread nD τ).loc cc0_scratch0)) (Y : S512x512.Idx → Elt F .i8) :
    (((cM.slice (cr j) (fun _ => rfl)).squeeze S512x512 squeezes_S1x512x512_S512x512).view.loc (e : Thread nD τ)
        ↦[((cM.slice (cr j) (fun _ => rfl)).squeeze S512x512 squeezes_S1x512x512_S512x512).view.set]{fullShare}
        (((cM.slice (cr j) (fun _ => rfl)).squeeze S512x512 squeezes_S1x512x512_S512x512).view.write (Elt F) fd Y Finset.univ) : sProp 𝕄)
      ⊢ cmO e j (unsq squeezes_S1x512x512_S512x512 Y) :=
  (owns_written e ((cM.slice (cr j) (fun _ => rfl)).squeeze S512x512 squeezes_S1x512x512_S512x512) fd Y).trans
    (Entails.of_eq (owns_unsq e (cM.slice (cr j) (fun _ => rfl)) squeezes_S1x512x512_S512x512 fullShare Y))

omit m in
/-- What a copy of a block of `w` leaves in a slot. -/
theorem land_w (e : Dev nD) (j : Fin 2) (fd : Buf (Elt F) ((e : Thread nD τ).loc cc0_scratch1)) (Y : S512x8192.Idx → Elt F .i8) :
    (((bufM.slice (sr j) (fun _ => rfl)).squeeze S512x8192 squeezes_S1x512x8192_S512x8192).view.loc (e : Thread nD τ)
        ↦[((bufM.slice (sr j) (fun _ => rfl)).squeeze S512x8192 squeezes_S1x512x8192_S512x8192).view.set]{fullShare}
        (((bufM.slice (sr j) (fun _ => rfl)).squeeze S512x8192 squeezes_S1x512x8192_S512x8192).view.write (Elt F) fd Y Finset.univ) : sProp 𝕄)
      ⊢ bufO e j (unsq squeezes_S1x512x8192_S512x8192 Y) :=
  (owns_written e ((bufM.slice (sr j) (fun _ => rfl)).squeeze S512x8192 squeezes_S1x512x8192_S512x8192) fd Y).trans
    (Entails.of_eq (owns_unsq e (bufM.slice (sr j) (fun _ => rfl)) squeezes_S1x512x8192_S512x8192 fullShare Y))

/-- A block of `x` read from is still that block. -/
theorem back_x (c : Dev nD) (b : Fin 8) (fs : Buf (Elt F) ((c : Thread nD τ).loc cc0_stg0_0))
    (hfs : (xM.slice (xr b) (fun _ => rfl)).view.read (Elt F) fs = xblk m c b) :
    ((xM.slice (xr b) (fun _ => rfl)).view.loc (c : Thread nD τ) ↦[(xM.slice (xr b) (fun _ => rfl)).view.set]{fullShare} fs : sProp 𝕄) ⊢ xO m c b :=
  (owns_intro (c : Thread nD τ) (xM.slice (xr b) (fun _ => rfl)) fullShare fs).trans
    (Entails.of_eq (congrArg (fun X => owns (c : Thread nD τ) (xM.slice (xr b) (fun _ => rfl)) fullShare X) hfs))

/-- The same of `w`. -/
theorem back_w (c : Dev nD) (b : Fin 8) (fs : Buf (Elt F) ((c : Thread nD τ).loc main_arg1))
    (hfs : (wM.slice (wr b) (fun _ => rfl)).view.read (Elt F) fs = wblk m c b) :
    ((wM.slice (wr b) (fun _ => rfl)).view.loc (c : Thread nD τ) ↦[(wM.slice (wr b) (fun _ => rfl)).view.set]{fullShare} fs : sProp 𝕄) ⊢ wO m c b :=
  (owns_intro (c : Thread nD τ) (wM.slice (wr b) (fun _ => rfl)) fullShare fs).trans
    (Entails.of_eq (congrArg (fun X => owns (c : Thread nD τ) (wM.slice (wr b) (fun _ => rfl)) fullShare X) hfs))

/-- The local copy's landing gives the copied rows back. -/
theorem retX_self (c : Dev nD) : retX m c c = xO m c c := if_pos rfl
/-- A landing from another device gives nothing back here. -/
theorem retX_other (c e : Dev nD) (h : c ≠ e) : retX m e c = (iprop(emp) : sProp 𝕄) := if_neg h

/-- The local copy's landing, from what it wrote and what it read. -/
theorem pay_copy (c : Dev nD) (fd : Buf (Elt F) ((c : Thread nD τ).loc cc0_scratch0)) (fs : Buf (Elt F) ((c : Thread nD τ).loc cc0_stg0_0))
    (hfs : (xM.slice (xr c) (fun _ => rfl)).view.read (Elt F) fs = xblk m c c) :
    iprop((((cM.slice (cr c) (fun _ => rfl)).squeeze S512x512 squeezes_S1x512x512_S512x512).view.loc (c : Thread nD τ)
        ↦[((cM.slice (cr c) (fun _ => rfl)).squeeze S512x512 squeezes_S1x512x512_S512x512).view.set]{fullShare}
        (((cM.slice (cr c) (fun _ => rfl)).squeeze S512x512 squeezes_S1x512x512_S512x512).view.write (Elt F) fd
          ((xM.slice (xr c) (fun _ => rfl)).view.read (Elt F) fs) Finset.univ))
      ∗ ((xM.slice (xr c) (fun _ => rfl)).view.loc (c : Thread nD τ) ↦[(xM.slice (xr c) (fun _ => rfl)).view.set]{fullShare} fs))
      ⊢ (Rd (F := F) m).payload (recvCell c c) 0 0 := by
  rw [payload_recv, hfs]
  unfold recvPay
  rw [retX_self]
  exact BI.sep_mono (land_c c c fd (xblk m c c)) (back_x m c c fs hfs)

/-- A transfer's landing on another device, from what it wrote there. -/
theorem pay_land (c e : Dev nD) (h : c ≠ e) (fd : Buf (Elt F) ((e : Thread nD τ).loc cc0_scratch0)) (fs : Buf (Elt F) ((c : Thread nD τ).loc cc0_stg0_0))
    (hfs : (xM.slice (xr e) (fun _ => rfl)).view.read (Elt F) fs = xblk m c e) :
    (((cM.slice (cr c) (fun _ => rfl)).squeeze S512x512 squeezes_S1x512x512_S512x512).view.loc (e : Thread nD τ)
        ↦[((cM.slice (cr c) (fun _ => rfl)).squeeze S512x512 squeezes_S1x512x512_S512x512).view.set]{fullShare}
        (((cM.slice (cr c) (fun _ => rfl)).squeeze S512x512 squeezes_S1x512x512_S512x512).view.write (Elt F) fd
          ((xM.slice (xr e) (fun _ => rfl)).view.read (Elt F) fs) Finset.univ) : sProp 𝕄)
      ⊢ (Rd (F := F) m).payload (recvCell e c) 0 0 := by
  rw [payload_recv, hfs]
  unfold recvPay
  rw [retX_other m c e h]
  refine (land_c e c fd (xblk m c e)).trans ?_
  show cmO e c (cB m e c) ⊢ _
  iintro H
  isplitl [H]; · iexact H
  iempintro

/-! ## Ends and sequences -/

omit m in
/-- The end of a part. -/
theorem st_ret (c : Dev nD) {α : Type} {Q : α → sProp 𝕄} {a : α} : Q a ⊢ WP (F := F) c (.ret a) Q := by
  unfold WP
  rw [wp_ret]
  iintro H
  imodintro
  iexact H

omit m in
/-- The end of a part, after an update. -/
theorem st_ret_upd (c : Dev nD) {α : Type} {Q : α → sProp 𝕄} {a : α} : iprop(|={Set.univ}=> Q a) ⊢ WP (F := F) c (.ret a) Q := by
  unfold WP
  rw [wp_ret]

omit m in
/-- One part after another. -/
theorem st_bind (c : Dev nD) {α β : Type} {Q : β → sProp 𝕄} {p : Prog (TpuEff nD τ sig (Elt F) Λ₀ .tc) α}
    {k : α → Prog (TpuEff nD τ sig (Elt F) Λ₀ .tc) β} : WP c p (fun a => WP c (k a) Q) ⊢ WP c (p >>= k) Q := by
  unfold WP
  rw [wp_bind]

/-! ## Signals, the barrier -/

/-- A signal to the device `d` places on. -/
theorem st_signal (c : Dev nD) (d : Fin 8) (hd : d ≠ 0) (n : Dev nD) (hn : n = peer c d) {O' : CellTallies nD τ sig Unit}
    (O : CellTallies nD τ sig Unit) (hO : O' = O + tallyAt (barCell (peer c d)) () 1) {α : Type} {Q : α → sProp 𝕄}
    {k : PUnit → Prog (TpuEff nD τ sig (Elt F) Λ₀ .tc) α} :
    iprop(records m K ∗ ow c O' ∗ sigR c d)
      ⊢ iprop((ow c O -∗ WP c (k ⟨⟩) Q) -∗ WP c (.op (.semSignal ((n, .tc) : Thread nD τ) barS (1#32 : BitVec 32).toInt) k) Q) := by
  subst hn
  unfold ow sigR
  iintro ⟨#HR, ⟨%W, HO⟩, Ht, Hp⟩ Hk
  ihave #H := (rec_bar m K (peer c d)) $$ HR
  icases H with ⟨#HI, #Hr⟩
  iapply (Rounds.wp_signal 𝒱₀ ER (Rd m) (c : Thread nD τ) none (dst := (peer c d : Thread nD τ)) (κ := K (peer c d, 0))
      (r := 0) (d := c) (by rw [duties_bar]; exact Finset.mem_erase.mpr ⟨ne_peer c d hd, Finset.mem_univ _⟩)
      ((amount_bar m (peer c d) c).trans (by decide)) () O hO) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the seven signals. -/
theorem st_barrier (c : Dev nD) {α : Type} {Q : α → sProp 𝕄} {k : PUnit → Prog (TpuEff nD τ sig (Elt F) Λ₀ .tc) α} :
    iprop(records m K ∗ levAts L lv ∗ cred (tallyAt (barCell c) () 7) ∗ ow c (oS c 7) ∗ posB c 0)
      ⊢ iprop((iprop(ow c (oS c 7) ∗ posB c 1 ∗ barPay c (peer c 1) ∗ barPay c (peer c 2) ∗ barPay c (peer c 3) ∗ barPay c (peer c 4)
            ∗ barPay c (peer c 5) ∗ barPay c (peer c 6) ∗ barPay c (peer c 7)) -∗ WP c (k ⟨⟩) Q)
          -∗ WP c (.op (.semWait barS (7#32 : BitVec 32).toInt) k) Q) := by
  unfold ow posB
  iintro ⟨#HR, #Hlev, Hc, ⟨%W, HO⟩, Hat⟩ Hk
  ihave #H := (rec_bar m K c) $$ HR
  icases H with ⟨#HI, #Hr⟩
  iapply (Rounds.wp_wait_rest_token 𝒱₀ ER (Rd m) (c : Thread nD τ) none (κ := K (c, 0))
      (wpE_semWait_eq 𝒱₀ (c : Thread nD τ) none Set.univ) (Set.mem_univ _) () (O := oS c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Blocks of `x`: the local copy, the transfers, the waits -/

/-- The copy of the device's own rows into its own slot. -/
theorem st_copy (c : Dev nD) {offs : Fin 2 → ℕ} {offd : Fin 3 → ℕ} {sem : DmaSem sig} (ho : offs = ![512 * c.val, 0]) (hd : offd = ![c.val, 0, 0])
    (hs : sem = recvSem c) {inbs : ∀ a, offs a + S512x512.size a ≤ S4096x512.size a} {inbd : ∀ a, offd a + S1x512x512.size a ≤ S8x512x512.size a}
    {h1 h2} {α : Type} {Q : α → sProp 𝕄} {k : PUnit → Prog (TpuEff nD τ sig (Elt F) Λ₀ .tc) α} {p1 p2 p3} :
    iprop(records m K ∗ xO m c c ∗ barPay (F := F) c c ∗ dutyTok ER (recvCell c c) 0 0)
      ⊢ iprop((credR c c -∗ WP c (k ⟨⟩) Q)
          -∗ WP c (.op (.enqueueDma (xM.slice (Rect.unit (s := S4096x512) offs S512x512.size inbs) h1)
              (.here ((cM.slice (Rect.unit (s := S8x512x512) offd S1x512x512.size inbd) h2).squeeze S512x512 squeezes_S1x512x512_S512x512))
              (.dma sem) p1 p2 p3) k) Q) := by
  subst ho hd hs
  unfold barPay cmO credR
  iintro ⟨#HR, Hx, ⟨%X, Hc⟩, Ht⟩ Hk
  ihave #H := (rec_recv m K c c) $$ HR
  icases H with ⟨#HI, #Hr⟩
  unfold xO owns
  icases Hx with ⟨%fs, %hfs, Hx⟩
  icases Hc with ⟨%fd, %hfd, Hc⟩
  iapply (Rounds.wp_copy_pointsTo 𝒱₀ ER (Rd m) (c : Thread nD τ) none (κ := K (c, kR c)) (r := 0) (d := 0)
      (src := xM.slice (xr c) (fun _ => rfl)) (dst := (cM.slice (cr c) (fun _ => rfl)).squeeze S512x512 squeezes_S1x512x512_S512x512)
      (sem := .dma (recvSem c)) (fs := fs) (fd := fd) (q := fullShare)
      (by rw [duties_recv]; exact Finset.mem_singleton_self _) () N (credit_c c) (amount_recv m c c 0)
      (pay_copy m c fd fs hfs)) $$ [Hx Hc Ht]
  · isplitr; · iexact HI
    isplitl [Hx]; · iexact Hx
    isplitl [Hc]; · iapply (Entails.of_eq (pts_unsq c _ _ _ _)); iexact Hc
    isplitl [Ht]; · iexact Ht
    iexact Hr
  iexact Hk

/-- A send to the device `d` places on. -/
theorem st_send (c : Dev nD) (d : Fin 8) (hd0 : d ≠ 0) (n : Dev nD) (hn : n = peer c d) {offs : Fin 2 → ℕ} {offd : Fin 3 → ℕ} {semS semR : DmaSem sig}
    (ho : offs = ![512 * (peer c d).val, 0]) (hd : offd = ![c.val, 0, 0]) (hs : semS = sendSem d) (hr : semR = recvSem c)
    {O' : CellTallies nD τ sig Unit} (O : CellTallies nD τ sig Unit) (hO : O' = O + tallyAt (recvCell (peer c d) c) () N)
    {inbs : ∀ a, offs a + S512x512.size a ≤ S4096x512.size a} {inbd : ∀ a, offd a + S1x512x512.size a ≤ S8x512x512.size a}
    {h1 h2} {α : Type} {Q : α → sProp 𝕄} {k : PUnit → Prog (TpuEff nD τ sig (Elt F) Λ₀ .tc) α} {hsc p1 p2 p3} :
    iprop(records m K ∗ ow c O' ∗ sendR m c d ∗ barPay (F := F) c (peer c d))
      ⊢ iprop((iprop(credS c d ∗ ow c O) -∗ WP c (k ⟨⟩) Q)
          -∗ WP c (.op (.enqueueDma (xM.slice (Rect.unit (s := S4096x512) offs S512x512.size inbs) h1)
              (.remote (Dev.tc n : Thread nD τ) ((cM.slice (Rect.unit (s := S8x512x512) offd S1x512x512.size inbd) h2).squeeze S512x512 squeezes_S1x512x512_S512x512)
                (.dma semS) hsc)
              (.dma semR) p1 p2 p3) k) Q) := by
  subst hn ho hd hs hr
  unfold barPay cmO credS ow sendR
  iintro ⟨#HR, ⟨%W, HO⟩, ⟨HtR, HtS, Hx⟩, ⟨%X, Hc⟩⟩ Hk
  ihave #H := (rec_recv m K (peer c d) c) $$ HR
  icases H with ⟨#HI, #Hr⟩
  ihave #H' := (rec_send m K c d hd0) $$ HR
  icases H' with ⟨#HI', #Hr'⟩
  unfold xO owns
  icases Hx with ⟨%fs, %hfs, Hx⟩
  icases Hc with ⟨%fd, %hfd, Hc⟩
  iapply (Rounds.wp_send_pointsTo 𝒱₀ ER (Rd m) (c : Thread nD τ) none (κ₁ := K (c, kS d)) (κ₂ := K (peer c d, kR c)) (r₁ := 0) (r₂ := 0) (d₁ := 0) (d₂ := 0)
      (src := xM.slice (xr (peer c d)) (fun _ => rfl)) (c' := (peer c d : Thread nD τ))
      (dst := (cM.slice (cr c) (fun _ => rfl)).squeeze S512x512 squeezes_S1x512x512_S512x512)
      (sS := .dma (sendSem d)) (sem := .dma (recvSem c)) (fs := fs) (fd := fd) (q := fullShare)
      (by rw [duties_send]; exact Finset.mem_singleton_self _) (by rw [duties_recv]; exact Finset.mem_singleton_self _)
      () () N (credit_c c) (amount_send m c d 0) (amount_recv m (peer c d) c 0) O hO (W := W)
      (by rw [payload_send]; exact back_x m c (peer c d) fs hfs)
      (pay_land m c (peer c d) (ne_peer c d hd0) fd fs hfs)) $$ [Hx Hc HtR HtS HO]
  · isplitr; · iexact HI'
    isplitr; · iexact HI
    isplitl [Hx]; · iexact Hx
    isplitl [Hc]; · iapply (Entails.of_eq (pts_unsq (peer c d) _ _ _ _)); iexact Hc
    isplitl [HO]; · iexact HO
    isplitl [HtS]; · iexact HtS
    isplitr; · iexact Hr'
    isplitl [HtR]; · iexact HtR
    iexact Hr
  iintro ⟨Hc, HO⟩
  iapply Hk
  isplitl [Hc]; · iexact Hc
  iexists W; iexact HO

/-- The wait for slot `j` to be filled. -/
theorem st_recv (c : Dev nD) (j : Fin 8) {sem : DmaSem sig} (hs : sem = recvSem j) {offd : Fin 3 → ℕ} (hd : offd = ![j.val, 0, 0])
    {inbd : ∀ a, offd a + S1x512x512.size a ≤ S8x512x512.size a} {h2}
    {sp' : Space} {s' : Shape} {e' : EltTy} {src : Memref sig .tc sp' s' e'}
    {α : Type} {Q : α → sProp 𝕄} {k : PUnit → Prog (TpuEff nD τ sig (Elt F) Λ₀ .tc) α} {p1 p2} :
    iprop(records m K ∗ ow c 0 ∗ credR c j ∗ posR c j 0)
      ⊢ iprop((iprop(ow c 0 ∗ posR c j 1 ∗ cmO c j (cB m c j) ∗ retX m c j) -∗ WP c (k ⟨⟩) Q)
          -∗ WP c (.op (.waitDma2 sem src ((cM.slice (Rect.unit (s := S8x512x512) offd S1x512x512.size inbd) h2).squeeze S512x512 squeezes_S1x512x512_S512x512) p1 p2) k) Q) := by
  subst hs hd
  unfold ow credR posR
  iintro ⟨#HR, ⟨%W, HO⟩, Hc, Hat⟩ Hk
  ihave #H := (rec_recv m K c j) $$ HR
  icases H with ⟨#HI, #Hr⟩
  iapply (Rounds.wp_wait_rest_token 𝒱₀ ER (Rd m) (c : Thread nD τ) none (κ := K (c, kR j)) (sm := .dma (recvSem j))
      (wpE_waitDma2_eq 𝒱₀ (c : Thread nD τ) none Set.univ (src := src) (dst := (cM.slice (cr j) (fun _ => rfl)).squeeze S512x512 squeezes_S1x512x512_S512x512) (hsrc := p1) (hdst := p2)) (Set.mem_univ _) () (O := 0) (W := W) (R := 0) (m := 0) (T := ∅)
      (by rw [Nat.zero_add, expect_recv, credit_c])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  unfold recvPay
  iapply Hk
  isplitl [HO]; · iexists _; iexact HO
  isplitl [Hat]; · iexact Hat
  iexact Hp

/-- The wait for a send to have left. -/
theorem st_sent (c : Dev nD) (d : Fin 8) (hd0 : d ≠ 0) {sem : DmaSem sig} (hs : sem = sendSem d)
    {offs : Fin 2 → ℕ} (b : Fin 8) (ho : offs = ![512 * b.val, 0]) {inbs : ∀ a, offs a + S512x512.size a ≤ S4096x512.size a} {h1}
    {sp' : Space} {s' : Shape} {e' : EltTy} {src : Memref sig .tc sp' s' e'}
    {α : Type} {Q : α → sProp 𝕄} {k : PUnit → Prog (TpuEff nD τ sig (Elt F) Λ₀ .tc) α} {p1 p2} :
    iprop(records m K ∗ ow c 0 ∗ credS c d ∗ posS c d 0)
      ⊢ iprop((iprop(ow c 0 ∗ posS c d 1 ∗ xO m c (peer c d)) -∗ WP c (k ⟨⟩) Q)
          -∗ WP c (.op (.waitDma2 sem src (xM.slice (Rect.unit (s := S4096x512) offs S512x512.size inbs) h1) p1 p2) k) Q) := by
  subst hs ho
  unfold ow credS posS
  iintro ⟨#HR, ⟨%W, HO⟩, Hc, Hat⟩ Hk
  ihave #H := (rec_send m K c d hd0) $$ HR
  icases H with ⟨#HI, #Hr⟩
  iapply (Rounds.wp_wait_rest_token 𝒱₀ ER (Rd m) (c : Thread nD τ) none (κ := K (c, kS d)) (sm := .dma (sendSem d))
      (wpE_waitDma2_eq 𝒱₀ (c : Thread nD τ) none Set.univ (src := src) (dst := xM.slice (xr b) (fun _ => rfl)) (hsrc := p1) (hdst := p2)) (Set.mem_univ _) () (O := 0) (W := W) (R := 0) (m := 0) (T := ∅)
      (by rw [Nat.zero_add, expect_send, credit_x])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c d)) $$ Hpay
  unfold sendPay
  iapply Hk
  isplitl [HO]; · iexists _; iexact HO
  isplitl [Hat]; · iexact Hat
  iexact Hp

/-! ## Blocks of `w` -/

/-- A row block of `w` starts on its way into a slot. -/
theorem st_wstart (c : Dev nD) (s : Fin 2) (b : Fin 8) {offs : Fin 2 → ℕ} {offd : Fin 3 → ℕ} {sem : DmaSem sig} (ho : offs = ![512 * b.val, 0])
    (hd : offd = ![s.val, 0, 0]) (hs : sem = wSem s)
    {inbs : ∀ a, offs a + S512x8192.size a ≤ S4096x8192.size a} {inbd : ∀ a, offd a + S1x512x8192.size a ≤ S2x512x8192.size a}
    {h1 h2} {X : S1x512x8192.Idx → Elt F .i8} {α : Type} {Q : α → sProp 𝕄} {k : PUnit → Prog (TpuEff nD τ sig (Elt F) Λ₀ .tc) α} {p1 p2 p3} :
    iprop(wO m c b ∗ bufO c s X ∗ wFree c s)
      ⊢ iprop((wFly m c s b -∗ WP c (k ⟨⟩) Q)
          -∗ WP c (.op (.enqueueDma (wM.slice (Rect.unit (s := S4096x8192) offs S512x8192.size inbs) h1)
              (.here ((bufM.slice (Rect.unit (s := S2x512x8192) offd S1x512x8192.size inbd) h2).squeeze S512x8192 squeezes_S1x512x8192_S512x8192))
              (.dma sem) p1 p2 p3) k) Q) := by
  subst ho hd hs
  unfold wO bufO wFree owns
  iintro ⟨⟨%fs, %hfs, Hx⟩, ⟨%fd, %hfd, Hc⟩, Hv⟩ Hk
  iapply (Transfers.wp_dmaLocal countersEmb 𝒱₀ (c : Thread nD τ) none
      (src := wM.slice (wr b) (fun _ => rfl)) (dst := (bufM.slice (sr s) (fun _ => rfl)).squeeze S512x8192 squeezes_S1x512x8192_S512x8192)
      (sm := .dma (wSem s)) (fs := fs) (fd := fd) (q := fullShare) () NW (credit_w s) NW_pos (Finset.Subset.refl _)) $$ [Hx Hc Hv]
  · isplitl [Hx]; · iexact Hx
    isplitl [Hc]; · iapply (Entails.of_eq (pts_unsq c _ _ _ _)); iexact Hc
    iexact Hv
  iintro HF
  iapply Hk
  unfold wFly
  iapply (Transfers.Flight_mono countersEmb (c : Thread nD τ) ?_) $$ HF
  refine BI.sep_mono ?_ ?_
  · rw [show ReadAs.same.apply ((wM.slice (wr b) (fun _ => rfl)).view.read (Elt F) fs) = wblk m c b from hfs]
    exact land_w c s fd (wblk m c b)
  · exact back_w m c b fs hfs

/-- The wait for a row block of `w`. -/
theorem st_wwait (c : Dev nD) (s : Fin 2) (b : Fin 8) {offd : Fin 3 → ℕ} {sem : DmaSem sig} (hd : offd = ![s.val, 0, 0]) (hs : sem = wSem s)
    {inbd : ∀ a, offd a + S1x512x8192.size a ≤ S2x512x8192.size a} {h2}
    {sp' : Space} {s' : Shape} {e' : EltTy} {src : Memref sig .tc sp' s' e'}
    {α : Type} {Q : α → sProp 𝕄} {k : PUnit → Prog (TpuEff nD τ sig (Elt F) Λ₀ .tc) α} {p1 p2} :
    iprop(wFly m c s b ∗ ow c 0)
      ⊢ iprop((iprop(bufO c s (wS m c b) ∗ wO m c b ∗ wFree c s ∗ ow c 0) -∗ WP c (k ⟨⟩) Q)
          -∗ WP c (.op (.waitDma2 sem src ((bufM.slice (Rect.unit (s := S2x512x8192) offd S1x512x8192.size inbd) h2).squeeze S512x8192 squeezes_S1x512x8192_S512x8192) p1 p2) k) Q) := by
  subst hd hs
  unfold wFly wFree ow
  iintro ⟨HF, ⟨%W, HO⟩⟩ Hk
  iapply (Transfers.wp_waitLocal countersEmb 𝒱₀ (c : Thread nD τ) none () (N := NW) (credit_w s) (W := W)) $$ [HF HO]
  · isplitl [HF]; · iexact HF
    iexact HO
  iintro ⟨⟨Hb, Hw⟩, Hv, HO⟩
  iapply Hk
  isplitl [Hb]; · iexact Hb
  isplitl [Hw]; · iexact Hw
  isplitl [Hv]; · iexact Hv
  iexists _; iexact HO

/-! ## Loads and stores -/

omit m in
/-- A load of a rectangle of a memref. -/
theorem st_load (c : Dev nD) {s : Shape} {e : EltTy} (M : Memref sig .tc .vmem s e) (r : Rect s) (hr : ∀ a, r.stride a = 1) (X : r.shape.Idx → Elt F e)
    {hl} {α : Type} {Q : α → sProp 𝕄} {k : (r.toLoadRect.shape.Idx → Elt F e) → Prog (TpuEff nD τ sig (Elt F) Λ₀ .tc) α} :
    (owns (c : Thread nD τ) (M.slice r hr) fullShare X : sProp 𝕄)
      ⊢ iprop((owns (c : Thread nD τ) (M.slice r hr) fullShare X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (S := (M.slice r hr).view.set) (Finset.Subset.refl _)) $$ H
  iintro H
  iapply Hk
  iexists f
  isplitr; · ipureintro; rfl
  iexact H

omit m in
/-- A store into a rectangle of a memref. -/
theorem st_store (c : Dev nD) {s : Shape} {e : EltTy} (M : Memref sig .tc .vmem s e) (r : Rect s) (hr : ∀ a, r.stride a = 1) (X w : r.shape.Idx → Elt F e)
    {hx hm} {α : Type} {Q : α → sProp 𝕄} {k : PUnit → Prog (TpuEff nD τ sig (Elt F) Λ₀ .tc) α} :
    (owns (c : Thread nD τ) (M.slice r hr) fullShare X : sProp 𝕄)
      ⊢ iprop((owns (c : Thread nD τ) (M.slice r hr) fullShare w -∗ WP c (k ⟨⟩) Q) -∗ WP c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (Finset.Subset.refl _)) $$ H
  iintro H
  iapply Hk
  iexists _
  isplitr; swap; · iexact H
  ipureintro
  exact View.read_write_univ f w

omit m in
/-- The load of a landing slot. -/
theorem st_load_c (c : Dev nD) (j : Fin 8) (X : S1x512x512.Idx → Elt F .i8) {off : Fin 3 → ℕ} (ho : off = ![j.val, 0, 0])
    {inb : ∀ a, off a + S1x512x512.size a ≤ S8x512x512.size a} {hl} {α : Type} {Q : α → sProp 𝕄}
    {k : (S1x512x512.Idx → Elt F .i8) → Prog (TpuEff nD τ sig (Elt F) Λ₀ .tc) α} :
    cmO c j X ⊢ iprop((cmO c j X -∗ WP c (k X) Q)
      -∗ WP c (.op (.load cM (Rect.unit (s := S8x512x512) off S1x512x512.size inb).toLoadRect hl) k) Q) := by
  subst ho; exact st_load c cM (cr j) (fun _ => rfl) X

omit m in
/-- The load of a slot of the buffer of `w`. -/
theorem st_load_buf (c : Dev nD) (j : Fin 2) (X : S1x512x8192.Idx → Elt F .i8) {off : Fin 3 → ℕ} (ho : off = ![j.val, 0, 0])
    {inb : ∀ a, off a + S1x512x8192.size a ≤ S2x512x8192.size a} {hl} {α : Type} {Q : α → sProp 𝕄}
    {k : (S1x512x8192.Idx → Elt F .i8) → Prog (TpuEff nD τ sig (Elt F) Λ₀ .tc) α} :
    bufO c j X ⊢ iprop((bufO c j X -∗ WP c (k X) Q)
      -∗ WP c (.op (.load bufM (Rect.unit (s := S2x512x8192) off S1x512x8192.size inb).toLoadRect hl) k) Q) := by
  subst ho; exact st_load c bufM (sr j) (fun _ => rfl) X

omit m in
/-- The load of a converted slot. -/
theorem st_load_bf (c : Dev nD) (j : Fin 2) (X : S1x512x8192.Idx → Elt F .bf16) {off : Fin 3 → ℕ} (ho : off = ![j.val, 0, 0])
    {inb : ∀ a, off a + S1x512x8192.size a ≤ S2x512x8192.size a} {hl} {α : Type} {Q : α → sProp 𝕄}
    {k : (S1x512x8192.Idx → Elt F .bf16) → Prog (TpuEff nD τ sig (Elt F) Λ₀ .tc) α} :
    bfO c j X ⊢ iprop((bfO c j X -∗ WP c (k X) Q)
      -∗ WP c (.op (.load bfM (Rect.unit (s := S2x512x8192) off S1x512x8192.size inb).toLoadRect hl) k) Q) := by
  subst ho; exact st_load c bfM (sr j) (fun _ => rfl) X

omit m in
/-- The store of a converted slot. -/
theorem st_store_bf (c : Dev nD) (j : Fin 2) (X w : S1x512x8192.Idx → Elt F .bf16) {off : Fin 3 → ℕ} (ho : off = ![j.val, 0, 0])
    {inb : ∀ a, off a + S1x512x8192.size a ≤ S2x512x8192.size a} {hx hm} {α : Type} {Q : α → sProp 𝕄}
    {k : PUnit → Prog (TpuEff nD τ sig (Elt F) Λ₀ .tc) α} :
    bfO c j X ⊢ iprop((bfO c j w -∗ WP c (k ⟨⟩) Q)
      -∗ WP c (.op (.store bfM (Rect.unit (s := S2x512x8192) off S1x512x8192.size inb) w Finset.univ hx hm) k) Q) := by
  subst ho; exact st_store c bfM (sr j) (fun _ => rfl) X w

omit [FloatOps F] in
/-- Offsets of zero in two dimensions. -/
theorem zz : (![0, 0] : Fin 2 → ℕ) = fun _ => 0 := funext fun a => by fin_cases a <;> rfl
omit [FloatOps F] in
/-- An offset of zero in one dimension. -/
theorem z1 : (![0] : Fin 1 → ℕ) = fun _ => 0 := funext fun a => by fin_cases a; rfl

omit m in
/-- The load of the running sum. -/
theorem st_load_out (c : Dev nD) (Y : S512x8192.Idx → Elt F .f32)
    {inb : ∀ a, (![0, 0] : Fin 2 → ℕ) a + S512x8192.size a ≤ S512x8192.size a} {hl} {α : Type} {Q : α → sProp 𝕄}
    {k : (S512x8192.Idx → Elt F .f32) → Prog (TpuEff nD τ sig (Elt F) Λ₀ .tc) α} :
    oO c Y ⊢ iprop((oO c Y -∗ WP c (k Y) Q)
      -∗ WP c (.op (.load oM (Rect.unit (s := S512x8192) ![0, 0] S512x8192.size inb).toLoadRect hl) k) Q) := by
  unfold oO
  iintro H Hk
  iapply (wp_load 𝒱₀ (c : Thread nD τ) none Set.univ (m := oM) (Finset.subset_univ _)) $$ H
  iintro H
  rw [show oM.view.readAt (Elt F) (Rect.unit (s := S512x8192) ![0, 0] S512x8192.size inb).toLoadRect Y = Y from
    Memref.readAt_unit_zero (Elt F) cc0_stg3_0 zz _ Y]
  iapply Hk; iexact H

omit m in
/-- The store of the running sum. -/
theorem st_store_out (c : Dev nD) (Y w : S512x8192.Idx → Elt F .f32)
    {inb : ∀ a, (![0, 0] : Fin 2 → ℕ) a + S512x8192.size a ≤ S512x8192.size a} {hx hm} {α : Type} {Q : α → sProp 𝕄}
    {k : PUnit → Prog (TpuEff nD τ sig (Elt F) Λ₀ .tc) α} :
    oO c Y ⊢ iprop((oO c w -∗ WP c (k ⟨⟩) Q)
      -∗ WP c (.op (.store oM (Rect.unit (s := S512x8192) ![0, 0] S512x8192.size inb) w Finset.univ hx hm) k) Q) := by
  unfold oO
  iintro H Hk
  iapply (wp_store 𝒱₀ (c : Thread nD τ) none Set.univ (m := oM) (r := Rect.unit (s := S512x8192) ![0, 0] S512x8192.size inb)
    (Mk := Finset.univ) (Finset.subset_univ _)) $$ H
  iintro H
  rw [show (oM.access (Rect.unit (s := S512x8192) ![0, 0] S512x8192.size inb) : View sig .tc _ _ _).write (Elt F) Y w Finset.univ = w from
    Memref.write_access_unit_zero_univ (Elt F) cc0_stg3_0 zz _ Y w]
  iapply Hk; iexact H

/-- The load of the first scale. -/
theorem st_sx (c : Dev nD) {inb : ∀ a, (![0] : Fin 1 → ℕ) a + S1.size a ≤ S1.size a} {h1 hp} {α : Type} {Q : α → sProp 𝕄}
    {k : Elt F .f32 → Prog (TpuEff nD τ sig (Elt F) Λ₀ .tc) α} :
    sxO m c ⊢ iprop((sxO m c -∗ WP c (k (elt1 (sxstg m c))) Q)
      -∗ WP c (smemLoad (Memref.whole cc0_stg1_0) (Rect.unit (s := S1) ![0] S1.size inb) h1 hp >>= k) Q) := by
  unfold sxO smemLoad smemLoadElt
  simp only [Prog.bind_op, Prog.bind_ret]
  iintro H Hk
  iapply (wp_load 𝒱₀ (c : Thread nD τ) none Set.univ (m := Memref.whole cc0_stg1_0) (Finset.subset_univ _)) $$ H
  iintro H
  rw [show (Memref.whole cc0_stg1_0).view.readAt (Elt F) (Rect.unit (s := S1) ![0] S1.size inb).toLoadRect (sxstg m c) = sxstg m c from
    Memref.readAt_unit_zero (Elt F) cc0_stg1_0 z1 _ _]
  iapply Hk; iexact H

/-- The load of the second scale. -/
theorem st_sw (c : Dev nD) {inb : ∀ a, (![0] : Fin 1 → ℕ) a + S1.size a ≤ S1.size a} {h1 hp} {α : Type} {Q : α → sProp 𝕄}
    {k : Elt F .f32 → Prog (TpuEff nD τ sig (Elt F) Λ₀ .tc) α} :
    swO m c ⊢ iprop((swO m c -∗ WP c (k (elt1 (swstg m c))) Q)
      -∗ WP c (smemLoad (Memref.whole cc0_stg2_0) (Rect.unit (s := S1) ![0] S1.size inb) h1 hp >>= k) Q) := by
  unfold swO smemLoad smemLoadElt
  simp only [Prog.bind_op, Prog.bind_ret]
  iintro H Hk
  iapply (wp_load 𝒱₀ (c : Thread nD τ) none Set.univ (m := Memref.whole cc0_stg2_0) (Finset.subset_univ _)) $$ H
  iintro H
  rw [show (Memref.whole cc0_stg2_0).view.readAt (Elt F) (Rect.unit (s := S1) ![0] S1.size inb).toLoadRect (swstg m c) = swstg m c from
    Memref.readAt_unit_zero (Elt F) cc0_stg2_0 z1 _ _]
  iapply Hk; iexact H

end Cert.Mesh

end
-- ==== Proof.Pieces.lean ====
/-
# Whole buffers and their blocks

A buffer owned whole is its blocks owned one by one, and the blocks together are the buffer again.
-/
module

public import proofs.«01_k».proof.Proof.Steps

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The blocks are disjoint and cover -/

/-- Different row blocks, and below different slots, share no element. -/
theorem xr_disj (b b' : Fin 8) (h : b ≠ b') : Disjoint (xr b).set (xr b').set := by
  rw [Finset.disjoint_left]
  intro i hi hi'
  have h1 : 512 * b.val ≤ (i 0).val ∧ (i 0).val < 512 * b.val + 512 := (Rect.mem_set_unit.mp hi) 0
  have h2 : 512 * b'.val ≤ (i 0).val ∧ (i 0).val < 512 * b'.val + 512 := (Rect.mem_set_unit.mp hi') 0
  exact h (Fin.ext (by omega))
/-- Different row blocks of `w` share no element. -/
theorem wr_disj (b b' : Fin 8) (h : b ≠ b') : Disjoint (wr b).set (wr b').set := by
  rw [Finset.disjoint_left]
  intro i hi hi'
  have h1 : 512 * b.val ≤ (i 0).val ∧ (i 0).val < 512 * b.val + 512 := (Rect.mem_set_unit.mp hi) 0
  have h2 : 512 * b'.val ≤ (i 0).val ∧ (i 0).val < 512 * b'.val + 512 := (Rect.mem_set_unit.mp hi') 0
  exact h (Fin.ext (by omega))
/-- Different landing slots share no element. -/
theorem cr_disj (b b' : Fin 8) (h : b ≠ b') : Disjoint (cr b).set (cr b').set := by
  rw [Finset.disjoint_left]
  intro i hi hi'
  have h1 : b.val ≤ (i 0).val ∧ (i 0).val < b.val + 1 := (Rect.mem_set_unit.mp hi) 0
  have h2 : b'.val ≤ (i 0).val ∧ (i 0).val < b'.val + 1 := (Rect.mem_set_unit.mp hi') 0
  exact h (Fin.ext (by omega))
/-- The two slots share no element. -/
theorem sr_disj (b b' : Fin 2) (h : b ≠ b') : Disjoint (sr b).set (sr b').set := by
  rw [Finset.disjoint_left]
  intro i hi hi'
  have h1 : b.val ≤ (i 0).val ∧ (i 0).val < b.val + 1 := (Rect.mem_set_unit.mp hi) 0
  have h2 : b'.val ≤ (i 0).val ∧ (i 0).val < b'.val + 1 := (Rect.mem_set_unit.mp hi') 0
  exact h (Fin.ext (by omega))

/-- The blocks, and below the slots, are the whole buffer. -/
theorem xr_cover : Finset.univ.biUnion (fun b => (xr b).set) = Finset.univ := by
  ext i
  simp only [Finset.mem_biUnion, Finset.mem_univ, true_and, iff_true]
  have h0 : (i 0).val < 4096 := (i 0).isLt
  have h1 : (i 1).val < 512 := (i 1).isLt
  refine ⟨⟨(i 0).val / 512, by omega⟩, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 512; omega
/-- The row blocks of `w` are all of it. -/
theorem wr_cover : Finset.univ.biUnion (fun b => (wr b).set) = Finset.univ := by
  ext i
  simp only [Finset.mem_biUnion, Finset.mem_univ, true_and, iff_true]
  have h0 : (i 0).val < 4096 := (i 0).isLt
  have h1 : (i 1).val < 8192 := (i 1).isLt
  refine ⟨⟨(i 0).val / 512, by omega⟩, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 8192; omega
/-- The landing slots are the whole buffer. -/
theorem cr_cover : Finset.univ.biUnion (fun b => (cr b).set) = Finset.univ := by
  ext i
  simp only [Finset.mem_biUnion, Finset.mem_univ, true_and, iff_true]
  have h0 : (i 0).val < 8 := (i 0).isLt
  have h1 : (i 1).val < 512 := (i 1).isLt
  have h2 : (i 2).val < 512 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 512; omega
/-- The two slots are the whole buffer. -/
theorem sr_cover : Finset.univ.biUnion (fun b => (sr b).set) = Finset.univ := by
  ext i
  simp only [Finset.mem_biUnion, Finset.mem_univ, true_and, iff_true]
  have h0 : (i 0).val < 2 := (i 0).isLt
  have h1 : (i 1).val < 512 := (i 1).isLt
  have h2 : (i 2).val < 8192 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 8192; omega

/-! ## Gluing -/

/-- Contents given on disjoint rectangles are those of one array. -/
theorem glue {T α : Type} [Nonempty α] {s : Shape} (r : T → Rect s) (hd : ∀ t t', t ≠ t' → Disjoint (r t).set (r t').set)
    (Y : ∀ t, (r t).shape.Idx → α) : ∃ X : s.Idx → α, ∀ t j, X ((r t).emb j) = Y t j := by
  classical
  refine ⟨fun i => if h : ∃ p : (t : T) × (r t).shape.Idx, (r p.1).emb p.2 = i then Y h.choose.1 h.choose.2 else Classical.arbitrary α, fun t j => ?_⟩
  have h : ∃ p : (t : T) × (r t).shape.Idx, (r p.1).emb p.2 = (r t).emb j := ⟨⟨t, j⟩, rfl⟩
  refine (dif_pos h).trans ?_
  have hs := h.choose_spec
  generalize h.choose = p at hs
  obtain ⟨t', j'⟩ := p
  have ht : t' = t := by
    by_contra hn
    refine (Finset.disjoint_left.mp (hd t' t hn)) (a := (r t').emb j') ?_ ?_
    · exact LoadRect.idx_mem (r t').toLoadRect j'
    · rw [hs]; exact LoadRect.idx_mem (r t).toLoadRect j
  subst ht
  rw [(r t').emb.injective hs]

/-- Blocks owned at whatever contents are the buffer owned at some. -/
theorem owns_glue {sp : Space} {s : Shape} {e : EltTy} (M : Memref sig .tc sp s e) {n : ℕ} (r : Fin n → Rect s)
    (hr : ∀ t a, (r t).stride a = 1) (hd : ∀ t t', t ≠ t' → Disjoint (r t).set (r t').set)
    (hcov : Finset.univ.biUnion (fun t => (r t).set) = Finset.univ) (Y : ∀ t, (r t).shape.Idx → Elt F e) :
    (bigSep Finset.univ fun t => owns (c : Thread nD τ) (M.slice (r t) (hr t)) fullShare (Y t) : sProp 𝕄)
      ⊢ iprop(∃ X, owns (c : Thread nD τ) M fullShare X) := by
  obtain ⟨X, hX⟩ := glue r hd Y
  rw [show (fun t => owns (c : Thread nD τ) (M.slice (r t) (hr t)) fullShare (Y t) : Fin n → sProp 𝕄)
      = fun t => owns (c : Thread nD τ) (M.slice (r t) (hr t)) fullShare (fun j => X ((r t).emb j)) from
    funext fun t => congrArg (fun Z => owns (c : Thread nD τ) (M.slice (r t) (hr t)) fullShare Z) (funext fun j => (hX t j).symm)]
  iintro H
  iexists X
  iapply (owns_of_rects (c : Thread nD τ) M fullShare r hr hd hcov X)
  iexact H

omit [FloatOps F] in
/-- A whole buffer is owned at its contents. -/
theorem owns_whole_eq (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
/-- A buffer owned whole is owned as a memref. -/
theorem owns_of_whole (b : Ref sig .tc) (X : b.ty.Contents (Elt F)) :
    (((c : Thread nD τ).loc b) ↦{fullShare} X : sProp 𝕄) ⊢ owns (c : Thread nD τ) (Memref.whole b) fullShare X := by
  rw [owns_whole_eq]
  iintro H
  iexists X
  isplitr; · ipureintro; rfl
  iexact H

omit [FloatOps F] in
/-- And back. -/
theorem whole_of_owns (b : Ref sig .tc) (X : b.ty.Contents (Elt F)) :
    (owns (c : Thread nD τ) (Memref.whole b) fullShare X : sProp 𝕄) ⊢ (((c : Thread nD τ).loc b) ↦{fullShare} X) := by
  rw [owns_whole_eq]
  iintro ⟨%f, %hf, H⟩
  subst hf
  iexact H

/-! ## This kernel's buffers -/

/-- All of `w` on a device. -/
def wPts : sProp 𝕄 := ((c : Thread nD τ).loc main_arg1) ↦{fullShare} m ((c : Thread nD τ).loc main_arg1)

/-- The staged `x` is its eight row blocks. -/
theorem x_split : (((c : Thread nD τ).loc cc0_stg0_0) ↦{fullShare} xstg m c : sProp 𝕄)
    ⊢ iprop(xO m c c ∗ xO m c (peer c 1) ∗ xO m c (peer c 2) ∗ xO m c (peer c 3) ∗ xO m c (peer c 4) ∗ xO m c (peer c 5) ∗ xO m c (peer c 6) ∗ xO m c (peer c 7)) := by
  have h := bigSep_peers (F := F) c (fun b => xO m c b)
  rw [peer_zero] at h
  exact ((owns_of_whole c cc0_stg0_0 (xstg m c)).trans
    (owns_rects (c : Thread nD τ) xM fullShare xr (fun _ _ => rfl) xr_disj xr_cover (xstg m c))).trans (Entails.of_eq h)

/-- And the eight row blocks, by distance, are the staged `x`. -/
theorem x_join : iprop(xO m c c ∗ xO m c (peer c 1) ∗ xO m c (peer c 2) ∗ xO m c (peer c 3) ∗ xO m c (peer c 4) ∗ xO m c (peer c 5) ∗ xO m c (peer c 6) ∗ xO m c (peer c 7))
    ⊢ (((c : Thread nD τ).loc cc0_stg0_0) ↦{fullShare} xstg m c : sProp 𝕄) := by
  have h := bigSep_peers (F := F) c (fun b => xO m c b)
  rw [peer_zero] at h
  exact ((Entails.of_eq h.symm).trans
    (owns_of_rects (c : Thread nD τ) xM fullShare xr (fun _ _ => rfl) xr_disj xr_cover (xstg m c))).trans (whole_of_owns c cc0_stg0_0 (xstg m c))

/-- `w` is its eight row blocks. -/
theorem w_split : wPts m c ⊢ iprop(wO m c 0 ∗ wO m c 1 ∗ wO m c 2 ∗ wO m c 3 ∗ wO m c 4 ∗ wO m c 5 ∗ wO m c 6 ∗ wO m c 7) :=
  ((owns_of_whole c main_arg1 (m ((c : Thread nD τ).loc main_arg1))).trans
    (owns_rects (c : Thread nD τ) wM fullShare wr (fun _ _ => rfl) wr_disj wr_cover (m ((c : Thread nD τ).loc main_arg1)))).trans
    (Entails.of_eq (bigSep_fin8 (F := F) (fun b => wO m c b)))

/-- And the eight row blocks are `w`. -/
theorem w_join : iprop(wO m c 0 ∗ wO m c 1 ∗ wO m c 2 ∗ wO m c 3 ∗ wO m c 4 ∗ wO m c 5 ∗ wO m c 6 ∗ wO m c 7) ⊢ wPts m c :=
  ((Entails.of_eq (bigSep_fin8 (F := F) (fun b => wO m c b)).symm).trans
    (owns_of_rects (c : Thread nD τ) wM fullShare wr (fun _ _ => rfl) wr_disj wr_cover (m ((c : Thread nD τ).loc main_arg1)))).trans
    (whole_of_owns c main_arg1 (m ((c : Thread nD τ).loc main_arg1)))

/-- The landing buffer's slots, each for the device that will fill it. -/
theorem c_split (f : Buf (Elt F) ((c : Thread nD τ).loc cc0_scratch0)) : (((c : Thread nD τ).loc cc0_scratch0) ↦{fullShare} f : sProp 𝕄)
    ⊢ iprop(barPay (F := F) c c ∗ barPay (peer c 1) c ∗ barPay (peer c 2) c ∗ barPay (peer c 3) c ∗ barPay (peer c 4) c ∗ barPay (peer c 5) c
      ∗ barPay (peer c 6) c ∗ barPay (peer c 7) c) := by
  have h := bigSep_peers (F := F) c (fun e => barPay (F := F) e c)
  rw [peer_zero] at h
  refine ((owns_of_whole c cc0_scratch0 f).trans
    (owns_rects (c : Thread nD τ) cM fullShare cr (fun _ _ => rfl) cr_disj cr_cover f)).trans (BIBase.Entails.trans ?_ (Entails.of_eq h))
  refine bigSep_mono fun e _ => ?_
  unfold barPay
  show (cmO c e (fun j => f ((cr e).emb j)) : sProp 𝕄) ⊢ iprop(∃ X, cmO c e X)
  iintro H
  iexists _
  iexact H

/-- And the eight slots are the landing buffer. -/
theorem c_join (Y : Fin 8 → S1x512x512.Idx → Elt F .i8) :
    iprop(cmO c 0 (Y 0) ∗ cmO c 1 (Y 1) ∗ cmO c 2 (Y 2) ∗ cmO c 3 (Y 3) ∗ cmO c 4 (Y 4) ∗ cmO c 5 (Y 5) ∗ cmO c 6 (Y 6) ∗ cmO c 7 (Y 7))
      ⊢ (iprop(∃ f, ((c : Thread nD τ).loc cc0_scratch0) ↦{fullShare} f) : sProp 𝕄) := by
  refine ((Entails.of_eq (bigSep_fin8 (F := F) (fun j => cmO c j (Y j))).symm).trans
    (owns_glue c cM cr (fun _ _ => rfl) cr_disj cr_cover Y)).trans ?_
  iintro ⟨%X, H⟩
  iexists X
  iapply (whole_of_owns c cc0_scratch0 X)
  iexact H

/-- The buffer `w` comes through is its two slots. -/
theorem buf_split (f : Buf (Elt F) ((c : Thread nD τ).loc cc0_scratch1)) : (((c : Thread nD τ).loc cc0_scratch1) ↦{fullShare} f : sProp 𝕄)
    ⊢ iprop(bufO c 0 (fun j => f ((sr 0).emb j)) ∗ bufO c 1 (fun j => f ((sr 1).emb j))) :=
  ((owns_of_whole c cc0_scratch1 f).trans
    (owns_rects (c : Thread nD τ) bufM fullShare sr (fun _ _ => rfl) sr_disj sr_cover f)).trans
    (Entails.of_eq (bigSep_fin2 (F := F) (fun s => bufO c s (fun j => f ((sr s).emb j)))))

/-- And the two slots are the buffer. -/
theorem buf_join (Y : Fin 2 → S1x512x8192.Idx → Elt F .i8) : iprop(bufO c 0 (Y 0) ∗ bufO c 1 (Y 1))
      ⊢ (iprop(∃ f, ((c : Thread nD τ).loc cc0_scratch1) ↦{fullShare} f) : sProp 𝕄) := by
  refine ((Entails.of_eq (bigSep_fin2 (F := F) (fun j => bufO c j (Y j))).symm).trans
    (owns_glue c bufM sr (fun _ _ => rfl) sr_disj sr_cover Y)).trans ?_
  iintro ⟨%X, H⟩
  iexists X
  iapply (whole_of_owns c cc0_scratch1 X)
  iexact H

/-- The converted buffer is its two slots. -/
theorem bf_split (f : Buf (Elt F) ((c : Thread nD τ).loc cc0_scratch2)) : (((c : Thread nD τ).loc cc0_scratch2) ↦{fullShare} f : sProp 𝕄)
    ⊢ iprop(bfO c 0 (fun j => f ((sr 0).emb j)) ∗ bfO c 1 (fun j => f ((sr 1).emb j))) :=
  ((owns_of_whole c cc0_scratch2 f).trans
    (owns_rects (c : Thread nD τ) bfM fullShare sr (fun _ _ => rfl) sr_disj sr_cover f)).trans
    (Entails.of_eq (bigSep_fin2 (F := F) (fun s => bfO c s (fun j => f ((sr s).emb j)))))

/-- And the two slots are the converted buffer. -/
theorem bf_join (Y : Fin 2 → S1x512x8192.Idx → Elt F .bf16) : iprop(bfO c 0 (Y 0) ∗ bfO c 1 (Y 1))
      ⊢ (iprop(∃ f, ((c : Thread nD τ).loc cc0_scratch2) ↦{fullShare} f) : sProp 𝕄) := by
  refine ((Entails.of_eq (bigSep_fin2 (F := F) (fun j => bfO c j (Y j))).symm).trans
    (owns_glue c bfM sr (fun _ _ => rfl) sr_disj sr_cover Y)).trans ?_
  iintro ⟨%X, H⟩
  iexists X
  iapply (whole_of_owns c cc0_scratch2 X)
  iexact H

/-- The local copy's landing is the one that gives a block of `x` back. -/
theorem ret_all : iprop(retX m c 0 ∗ retX m c 1 ∗ retX m c 2 ∗ retX m c 3 ∗ retX m c 4 ∗ retX m c 5 ∗ retX m c 6 ∗ retX m c 7) ⊢ xO m c c := by
  have h := (bigSep_fin8 (F := F) (fun j => retX m c j)).symm.trans (bigSep_peers (F := F) c (fun j => retX m c j))
  rw [peer_zero] at h
  refine (Entails.of_eq h).trans ?_
  rw [retX_self]
  iintro ⟨H, -⟩
  iexact H

end Cert.Mesh

end
-- ==== Proof.PartsA.lean ====
/-
# The kernel's parts: signals, barrier, transfers

Each theorem runs one part of the body on what that part touches.
-/
module

public import proofs.«01_k».proof.Proof.Steps

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ) (c : Dev nD)
  (h0 : xM.IsWhole) (h1 : wM.IsWhole) (h2 : (Memref.whole cc0_stg1_0 : Memref sig .tc .smem S1 .f32).IsWhole)
  (h3 : (Memref.whole cc0_stg2_0 : Memref sig .tc .smem S1 .f32).IsWhole) (h4 : oM.IsWhole) (h5 : cM.IsWhole) (h6 : bufM.IsWhole) (h7 : bfM.IsWhole)
  {b0 b1 : S1x512x8192.Idx → Elt F .i8} {a0 a1 : S1x512x8192.Idx → Elt F .bf16} {y0 : S512x8192.Idx → Elt F .f32}

/-- Row block 0 of `w` starts towards slot 0; the first signal. -/
theorem part1_wp  {Kt : _ → sProp 𝕄} :
    iprop(records m K ∗ wO m c 0 ∗ bufO c 0 b0 ∗ wFree c 0 ∗ ow c (oB c 7) ∗ sigR c 1)
      ⊢ iprop(iprop(∀ (v2 : BitVec 32) (v25 : BitVec 32) (v30 : BitVec 1) (v31 : BitVec 32), iprop(ow c (oB c 6) ∗ wFly m c 0 0) -∗ Kt ⟨c, v2, (SemArray.scalar (sig.barrier 0 rfl) : Sems sig S_), v25, v30, v31⟩)
          -∗ WP c (k0_part1 (F := F) xM h0 wM h1 (Memref.whole cc0_stg1_0) h2 (Memref.whole cc0_stg2_0) h3 oM h4 cM h5 bufM h6 bfM h7 cc0_scratch3 cc0_scratch4 cc0_scratch5 ) Kt) := by
  simp only [k0_part1_eq_skeleton]
  unfold k0_part1_skel
  simp only [semSignalWord, semWaitWord, Prog.lift, Prog.bind_op, Prog.bind_ret, Prog.pure_eq_ret, Prog.bind_assoc, wp_deviceId]
  iintro ⟨#HR, W0, B0, F0, HO, G1⟩ Hk
  iapply (st_wstart m c 0 0 (rfl : (![0, 0] : Fin 2 → ℕ) = ![512 * (0 : Fin 8).val, 0]) (rfl : (![0, 0, 0] : Fin 3 → ℕ) = ![(0 : Fin 2).val, 0, 0]) (w_at (rfl : (![0] : Fin 1 → ℕ) = ![(0 : Fin 2).val]) _)) $$ [W0 B0 F0]
  · isplitl [W0]; · iexact W0
    isplitl [B0]; · iexact B0
    iexact F0
  iintro L0
  iapply (st_signal m K c 1 (by decide) _ (dev_eq1 c) (oB c 6) rfl) $$ [HO G1]
  · isplitr; · iexact HR
    isplitl [HO]; · iexact HO
    iexact G1
  iintro HO
  iapply st_ret
  iapply Hk
  isplitl [HO]; · iexact HO
  iexact L0

/-- Three more signals. -/
theorem part2_wp (v2 : BitVec 32) (v25 : BitVec 32) (v30 : BitVec 1) (v31 : BitVec 32) {Kt : _ → sProp 𝕄} :
    iprop(records m K ∗ ow c (oB c 6) ∗ sigR c 2 ∗ sigR c 3 ∗ sigR c 4)
      ⊢ iprop(iprop(∀ (r1 : BitVec 32) (r2 : BitVec 32) (r3 : BitVec 1), ow c (oB c 3) -∗ Kt ⟨r1, r2, r3⟩)
          -∗ WP c (k0_part2 (F := F) xM h0 wM h1 (Memref.whole cc0_stg1_0) h2 (Memref.whole cc0_stg2_0) h3 oM h4 cM h5 bufM h6 bfM h7 cc0_scratch3 cc0_scratch4 cc0_scratch5 c v2 (SemArray.scalar (sig.barrier 0 rfl) : Sems sig S_) v25 v30 v31) Kt) := by
  simp only [k0_part2_eq_skeleton]
  unfold k0_part2_skel
  simp only [semSignalWord, semWaitWord, Prog.lift, Prog.bind_op, Prog.bind_ret, Prog.pure_eq_ret, Prog.bind_assoc, wp_deviceId]
  iintro ⟨#HR, HO, G2, G3, G4⟩ Hk
  iapply (st_signal m K c 2 (by decide) _ (dev_eq2 c) (oB c 5) rfl) $$ [HO G2]
  · isplitr; · iexact HR
    isplitl [HO]; · iexact HO
    iexact G2
  iintro HO
  iapply (st_signal m K c 3 (by decide) _ (dev_eq3 c) (oB c 4) rfl) $$ [HO G3]
  · isplitr; · iexact HR
    isplitl [HO]; · iexact HO
    iexact G3
  iintro HO
  iapply (st_signal m K c 4 (by decide) _ (dev_eq4 c) (oB c 3) rfl) $$ [HO G4]
  · isplitr; · iexact HR
    isplitl [HO]; · iexact HO
    iexact G4
  iintro HO
  iapply st_ret
  iapply Hk
  iexact HO

/-- Two more signals. -/
theorem part3_wp (v2 : BitVec 32) (u1 : BitVec 32) (u2 : BitVec 32) (u3 : BitVec 1) {Kt : _ → sProp 𝕄} :
    iprop(records m K ∗ ow c (oB c 3) ∗ sigR c 5 ∗ sigR c 6)
      ⊢ iprop(iprop(∀ (r1 : BitVec 32) (r2 : BitVec 1) (r3 : BitVec 32), ow c (oB c 1) -∗ Kt ⟨r1, r2, r3⟩)
          -∗ WP c (k0_part3 (F := F) xM h0 wM h1 (Memref.whole cc0_stg1_0) h2 (Memref.whole cc0_stg2_0) h3 oM h4 cM h5 bufM h6 bfM h7 cc0_scratch3 cc0_scratch4 cc0_scratch5 c v2 (SemArray.scalar (sig.barrier 0 rfl) : Sems sig S_) u1 u2 u3) Kt) := by
  simp only [k0_part3_eq_skeleton]
  unfold k0_part3_skel
  simp only [semSignalWord, semWaitWord, Prog.lift, Prog.bind_op, Prog.bind_ret, Prog.pure_eq_ret, Prog.bind_assoc, wp_deviceId]
  iintro ⟨#HR, HO, G5, G6⟩ Hk
  iapply (st_signal m K c 5 (by decide) _ (dev_eq5 c) (oB c 2) rfl) $$ [HO G5]
  · isplitr; · iexact HR
    isplitl [HO]; · iexact HO
    iexact G5
  iintro HO
  iapply (st_signal m K c 6 (by decide) _ (dev_eq6 c) (oB c 1) rfl) $$ [HO G6]
  · isplitr; · iexact HR
    isplitl [HO]; · iexact HO
    iexact G6
  iintro HO
  iapply st_ret
  iapply Hk
  iexact HO

/-- The last signal, the barrier, the local copy and the first transfer. -/
theorem part4_wp (v2 : BitVec 32) (u1 : BitVec 32) (u2 : BitVec 1) (u3 : BitVec 32) {Kt : _ → sProp 𝕄} :
    iprop(records m K ∗ levAts L lv ∗ ow c (oB c 1) ∗ sigR c 7 ∗ cred (tallyAt (barCell c) () 7) ∗ posB c 0 ∗ xO m c c
      ∗ barPay (F := F) c c ∗ dutyTok ER (recvCell c c) 0 0 ∗ sendR m c 1)
      ⊢ iprop(iprop(∀ (r1 : BitVec 32) (r2 : BitVec 32), iprop(ow c (oS c 6) ∗ posB c 1 ∗ barPay c (peer c 2) ∗ barPay c (peer c 3) ∗ barPay c (peer c 4) ∗ barPay c (peer c 5)
        ∗ barPay c (peer c 6) ∗ barPay c (peer c 7) ∗ credR c c ∗ credS c 1) -∗ Kt ⟨r1, r2⟩)
          -∗ WP c (k0_part4 (F := F) xM h0 wM h1 (Memref.whole cc0_stg1_0) h2 (Memref.whole cc0_stg2_0) h3 oM h4 cM h5 bufM h6 bfM h7 cc0_scratch3 cc0_scratch4 cc0_scratch5 c v2 (SemArray.scalar (sig.barrier 0 rfl) : Sems sig S_) u1 u2 u3) Kt) := by
  simp only [k0_part4_eq_skeleton]
  unfold k0_part4_skel
  simp only [semSignalWord, semWaitWord, Prog.lift, Prog.bind_op, Prog.bind_ret, Prog.pure_eq_ret, Prog.bind_assoc, wp_deviceId]
  iintro ⟨#HR, #Hlev, HO, G7, HcB, HpB, X0, Z0, T0, S1⟩ Hk
  iapply (st_signal m K c 7 (by decide) _ (dev_eq7 c) (oS c 7) rfl) $$ [HO G7]
  · isplitr; · iexact HR
    isplitl [HO]; · iexact HO
    iexact G7
  iintro HO
  iapply (st_barrier m K c) $$ [HcB HO HpB]
  · isplitr; · iexact HR
    isplitr; · iexact Hlev
    isplitl [HcB]; · iexact HcB
    isplitl [HO]; · iexact HO
    iexact HpB
  iintro ⟨HO, HpB, Z1, Z2, Z3, Z4, Z5, Z6, Z7⟩
  iapply (st_copy m K c (k0_off3_eq c) (k0_off2_eq c) (recv_at (k0_off1_eq c) _)) $$ [X0 Z0 T0]
  · isplitr; · iexact HR
    isplitl [X0]; · iexact X0
    isplitl [Z0]; · iexact Z0
    iexact T0
  iintro E0
  iapply (st_send m K c 1 (by decide) _ (dev_eq8 c) (off4_eq1 c) (k0_off2_eq c) (send_at (rfl : (![1] : Fin 1 → ℕ) = ![(1 : Fin 8).val]) _) (recv_at (k0_off1_eq c) _) (oS c 6) rfl) $$ [HO S1 Z1]
  · isplitr; · iexact HR
    isplitl [HO]; · iexact HO
    isplitl [S1]; · iexact S1
    iexact Z1
  iintro ⟨C1, HO⟩
  iapply st_ret
  iapply Hk
  isplitl [HO]; · iexact HO
  isplitl [HpB]; · iexact HpB
  isplitl [Z2]; · iexact Z2
  isplitl [Z3]; · iexact Z3
  isplitl [Z4]; · iexact Z4
  isplitl [Z5]; · iexact Z5
  isplitl [Z6]; · iexact Z6
  isplitl [Z7]; · iexact Z7
  isplitl [E0]; · iexact E0
  iexact C1

/-- The second transfer. -/
theorem part5_wp (v2 : BitVec 32) (u1 : BitVec 32) (u2 : BitVec 32) {Kt : _ → sProp 𝕄} :
    iprop(records m K ∗ ow c (oS c 6) ∗ sendR m c 2 ∗ barPay c (peer c 2))
      ⊢ iprop(iprop(iprop(ow c (oS c 5) ∗ credS c 2) -∗ Kt ⟨⟩)
          -∗ WP c (k0_part5 (F := F) xM h0 wM h1 (Memref.whole cc0_stg1_0) h2 (Memref.whole cc0_stg2_0) h3 oM h4 cM h5 bufM h6 bfM h7 cc0_scratch3 cc0_scratch4 cc0_scratch5 c v2 u1 u2) Kt) := by
  simp only [k0_part5_eq_skeleton]
  unfold k0_part5_skel
  simp only [semSignalWord, semWaitWord, Prog.lift, Prog.bind_op, Prog.bind_ret, Prog.pure_eq_ret, Prog.bind_assoc, wp_deviceId]
  iintro ⟨#HR, HO, S2, Z2⟩ Hk
  iapply (st_send m K c 2 (by decide) _ (dev_eq9 c) (off4_eq2 c) (k0_off2_eq c) (send_at (rfl : (![2] : Fin 1 → ℕ) = ![(2 : Fin 8).val]) _) (recv_at (k0_off1_eq c) _) (oS c 5) rfl) $$ [HO S2 Z2]
  · isplitr; · iexact HR
    isplitl [HO]; · iexact HO
    isplitl [S2]; · iexact S2
    iexact Z2
  iintro ⟨C2, HO⟩
  iapply st_ret
  iapply Hk
  isplitl [HO]; · iexact HO
  iexact C2

/-- The third and fourth transfer. -/
theorem part6_wp (v2 : BitVec 32) {Kt : _ → sProp 𝕄} :
    iprop(records m K ∗ ow c (oS c 5) ∗ sendR m c 3 ∗ barPay c (peer c 3) ∗ sendR m c 4 ∗ barPay c (peer c 4))
      ⊢ iprop(iprop(∀ (r1 : BitVec 32) (r2 : BitVec 32) (r3 : BitVec 1) (r4 : BitVec 1), iprop(ow c (oS c 3) ∗ credS c 3 ∗ credS c 4) -∗ Kt ⟨r1, r2, r3, r4⟩)
          -∗ WP c (k0_part6 (F := F) xM h0 wM h1 (Memref.whole cc0_stg1_0) h2 (Memref.whole cc0_stg2_0) h3 oM h4 cM h5 bufM h6 bfM h7 cc0_scratch3 cc0_scratch4 cc0_scratch5 c v2) Kt) := by
  simp only [k0_part6_eq_skeleton]
  unfold k0_part6_skel
  simp only [semSignalWord, semWaitWord, Prog.lift, Prog.bind_op, Prog.bind_ret, Prog.pure_eq_ret, Prog.bind_assoc, wp_deviceId]
  iintro ⟨#HR, HO, S3, Z3, S4, Z4⟩ Hk
  iapply (st_send m K c 3 (by decide) _ (dev_eq10 c) (off4_eq3 c) (k0_off2_eq c) (send_at (rfl : (![3] : Fin 1 → ℕ) = ![(3 : Fin 8).val]) _) (recv_at (k0_off1_eq c) _) (oS c 4) rfl) $$ [HO S3 Z3]
  · isplitr; · iexact HR
    isplitl [HO]; · iexact HO
    isplitl [S3]; · iexact S3
    iexact Z3
  iintro ⟨C3, HO⟩
  iapply (st_send m K c 4 (by decide) _ (dev_eq11 c) (off4_eq4 c) (k0_off2_eq c) (send_at (rfl : (![4] : Fin 1 → ℕ) = ![(4 : Fin 8).val]) _) (recv_at (k0_off1_eq c) _) (oS c 3) rfl) $$ [HO S4 Z4]
  · isplitr; · iexact HR
    isplitl [HO]; · iexact HO
    isplitl [S4]; · iexact S4
    iexact Z4
  iintro ⟨C4, HO⟩
  iapply st_ret
  iapply Hk
  isplitl [HO]; · iexact HO
  isplitl [C3]; · iexact C3
  iexact C4

/-- The fifth and sixth. -/
theorem part7_wp (v2 : BitVec 32) (u1 : BitVec 32) (u2 : BitVec 32) (u3 : BitVec 1) (u4 : BitVec 1) {Kt : _ → sProp 𝕄} :
    iprop(records m K ∗ ow c (oS c 3) ∗ sendR m c 5 ∗ barPay c (peer c 5) ∗ sendR m c 6 ∗ barPay c (peer c 6))
      ⊢ iprop(iprop(∀ (r1 : BitVec 32) (r2 : BitVec 32), iprop(ow c (oS c 1) ∗ credS c 5 ∗ credS c 6) -∗ Kt ⟨r1, r2⟩)
          -∗ WP c (k0_part7 (F := F) xM h0 wM h1 (Memref.whole cc0_stg1_0) h2 (Memref.whole cc0_stg2_0) h3 oM h4 cM h5 bufM h6 bfM h7 cc0_scratch3 cc0_scratch4 cc0_scratch5 c v2 u1 u2 u3 u4) Kt) := by
  simp only [k0_part7_eq_skeleton]
  unfold k0_part7_skel
  simp only [semSignalWord, semWaitWord, Prog.lift, Prog.bind_op, Prog.bind_ret, Prog.pure_eq_ret, Prog.bind_assoc, wp_deviceId]
  iintro ⟨#HR, HO, S5, Z5, S6, Z6⟩ Hk
  iapply (st_send m K c 5 (by decide) _ (dev_eq12 c) (off4_eq5 c) (k0_off2_eq c) (send_at (rfl : (![5] : Fin 1 → ℕ) = ![(5 : Fin 8).val]) _) (recv_at (k0_off1_eq c) _) (oS c 2) rfl) $$ [HO S5 Z5]
  · isplitr; · iexact HR
    isplitl [HO]; · iexact HO
    isplitl [S5]; · iexact S5
    iexact Z5
  iintro ⟨C5, HO⟩
  iapply (st_send m K c 6 (by decide) _ (dev_eq13 c) (off4_eq6 c) (k0_off2_eq c) (send_at (rfl : (![6] : Fin 1 → ℕ) = ![(6 : Fin 8).val]) _) (recv_at (k0_off1_eq c) _) (oS c 1) rfl) $$ [HO S6 Z6]
  · isplitr; · iexact HR
    isplitl [HO]; · iexact HO
    isplitl [S6]; · iexact S6
    iexact Z6
  iintro ⟨C6, HO⟩
  iapply st_ret
  iapply Hk
  isplitl [HO]; · iexact HO
  isplitl [C5]; · iexact C5
  iexact C6

/-- The seventh; block 1 of `w` starts; block 0 has arrived. -/
theorem part8_wp (u1 : BitVec 32) (u2 : BitVec 32) {Kt : _ → sProp 𝕄} :
    iprop(records m K ∗ ow c (oS c 1) ∗ sendR m c 7 ∗ barPay c (peer c 7) ∗ wO m c 1 ∗ bufO c 1 b1 ∗ wFree c 1
      ∗ wFly m c 0 0)
      ⊢ iprop(iprop(iprop(ow c 0 ∗ credS c 7 ∗ wFly m c 1 1 ∗ bufO c 0 (wS m c 0) ∗ wO m c 0 ∗ wFree c 0) -∗ Kt ⟨⟩)
          -∗ WP c (k0_part8 (F := F) xM h0 wM h1 (Memref.whole cc0_stg1_0) h2 (Memref.whole cc0_stg2_0) h3 oM h4 cM h5 bufM h6 bfM h7 cc0_scratch3 cc0_scratch4 cc0_scratch5 c u1 u2) Kt) := by
  simp only [k0_part8_eq_skeleton]
  unfold k0_part8_skel
  simp only [semSignalWord, semWaitWord, Prog.lift, Prog.bind_op, Prog.bind_ret, Prog.pure_eq_ret, Prog.bind_assoc, wp_deviceId]
  iintro ⟨#HR, HO, S7, Z7, W1, B1, F1, L0⟩ Hk
  iapply (st_send m K c 7 (by decide) _ (dev_eq14 c) (off4_eq7 c) (k0_off2_eq c) (send_at (rfl : (![7] : Fin 1 → ℕ) = ![(7 : Fin 8).val]) _) (recv_at (k0_off1_eq c) _) 0 rfl) $$ [HO S7 Z7]
  · isplitr; · iexact HR
    isplitl [HO]; · iexact HO
    isplitl [S7]; · iexact S7
    iexact Z7
  iintro ⟨C7, HO⟩
  iapply (st_wstart m c 1 1 (rfl : (![512, 0] : Fin 2 → ℕ) = ![512 * (1 : Fin 8).val, 0]) (rfl : (![1, 0, 0] : Fin 3 → ℕ) = ![(1 : Fin 2).val, 0, 0]) (w_at (rfl : (![1] : Fin 1 → ℕ) = ![(1 : Fin 2).val]) _)) $$ [W1 B1 F1]
  · isplitl [W1]; · iexact W1
    isplitl [B1]; · iexact B1
    iexact F1
  iintro L1
  iapply (st_wwait m c 0 0 (rfl : (![0, 0, 0] : Fin 3 → ℕ) = ![(0 : Fin 2).val, 0, 0]) (w_at (rfl : (![0] : Fin 1 → ℕ) = ![(0 : Fin 2).val]) _)) $$ [L0 HO]
  · isplitl [L0]; · iexact L0
    iexact HO
  iintro ⟨B0, W0, F0, HO⟩
  iapply st_ret
  iapply Hk
  isplitl [HO]; · iexact HO
  isplitl [C7]; · iexact C7
  isplitl [L1]; · iexact L1
  isplitl [B0]; · iexact B0
  isplitl [W0]; · iexact W0
  iexact F0

end Cert.Mesh

end
-- ==== Proof.PartsB.lean ====
/-
# The kernel's parts: the first products
-/
module

public import proofs.«01_k».proof.Proof.Steps

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ) (c : Dev nD)
  (h0 : xM.IsWhole) (h1 : wM.IsWhole) (h2 : (Memref.whole cc0_stg1_0 : Memref sig .tc .smem S1 .f32).IsWhole)
  (h3 : (Memref.whole cc0_stg2_0 : Memref sig .tc .smem S1 .f32).IsWhole) (h4 : oM.IsWhole) (h5 : cM.IsWhole) (h6 : bufM.IsWhole) (h7 : bfM.IsWhole)
  {b0 b1 : S1x512x8192.Idx → Elt F .i8} {a0 a1 : S1x512x8192.Idx → Elt F .bf16} {y0 : S512x8192.Idx → Elt F .f32}

/-- Block 0 is converted, block 2 starts, block 1 arrives and is converted. -/
theorem part9_wp (v2 : BitVec 32) {Kt : _ → sProp 𝕄} :
    iprop(bufO c 0 (wS m c 0) ∗ bfO c 0 a0 ∗ wO m c 2 ∗ wFree c 0 ∗ wFly m c 1 1 ∗ ow c 0 ∗ bfO c 1 a1)
      ⊢ iprop(iprop(iprop(bfO c 0 (wB m c 0) ∗ ow c 0 ∗ bfO c 1 (wB m c 1) ∗ wFly m c 0 2 ∗ bufO c 1 (wS m c 1) ∗ wO m c 1 ∗ wFree c 1) -∗ Kt ⟨⟩)
          -∗ WP c (k0_part9 (F := F) xM h0 wM h1 (Memref.whole cc0_stg1_0) h2 (Memref.whole cc0_stg2_0) h3 oM h4 cM h5 bufM h6 bfM h7 cc0_scratch3 cc0_scratch4 cc0_scratch5 v2) Kt) := by
  simp only [k0_part9_eq_skeleton]
  unfold k0_part9_skel
  simp only [semSignalWord, semWaitWord, Prog.lift, Prog.bind_op, Prog.bind_ret, Prog.pure_eq_ret, Prog.bind_assoc, wp_deviceId]
  iintro ⟨B0, A0, W2, F0, L1, HO, A1⟩ Hk
  iapply (st_load_buf c 0 _ (rfl : (![0, 0, 0] : Fin 3 → ℕ) = ![(0 : Fin 2).val, 0, 0])) $$ B0
  iintro B0
  iapply (st_load_bf c 0 _ (rfl : (![0, 0, 0] : Fin 3 → ℕ) = ![(0 : Fin 2).val, 0, 0])) $$ A0
  iintro A0
  iapply (st_store_bf c 0 _ (wB m c 0) (rfl : (![0, 0, 0] : Fin 3 → ℕ) = ![(0 : Fin 2).val, 0, 0])) $$ A0
  iintro A0
  iapply (st_wstart m c 0 2 (rfl : (![1024, 0] : Fin 2 → ℕ) = ![512 * (2 : Fin 8).val, 0]) (rfl : (![0, 0, 0] : Fin 3 → ℕ) = ![(0 : Fin 2).val, 0, 0]) (w_at (rfl : (![0] : Fin 1 → ℕ) = ![(0 : Fin 2).val]) _)) $$ [W2 B0 F0]
  · isplitl [W2]; · iexact W2
    isplitl [B0]; · iexact B0
    iexact F0
  iintro L0
  iapply (st_wwait m c 1 1 (rfl : (![1, 0, 0] : Fin 3 → ℕ) = ![(1 : Fin 2).val, 0, 0]) (w_at (rfl : (![1] : Fin 1 → ℕ) = ![(1 : Fin 2).val]) _)) $$ [L1 HO]
  · isplitl [L1]; · iexact L1
    iexact HO
  iintro ⟨B1, W1, F1, HO⟩
  iapply (st_load_buf c 1 _ (rfl : (![1, 0, 0] : Fin 3 → ℕ) = ![(1 : Fin 2).val, 0, 0])) $$ B1
  iintro B1
  iapply (st_load_bf c 1 _ (rfl : (![1, 0, 0] : Fin 3 → ℕ) = ![(1 : Fin 2).val, 0, 0])) $$ A1
  iintro A1
  iapply (st_store_bf c 1 _ (wB m c 1) (rfl : (![1, 0, 0] : Fin 3 → ℕ) = ![(1 : Fin 2).val, 0, 0])) $$ A1
  iintro A1
  iapply st_ret
  iapply Hk
  isplitl [A0]; · iexact A0
  isplitl [HO]; · iexact HO
  isplitl [A1]; · iexact A1
  isplitl [L0]; · iexact L0
  isplitl [B1]; · iexact B1
  isplitl [W1]; · iexact W1
  iexact F1

/-- The first landing and the first product; block 3 starts, block 2 arrives and is converted. -/
theorem part10_wp  {Kt : _ → sProp 𝕄} :
    iprop(records m K ∗ ow c 0 ∗ credR c 0 ∗ posR c 0 0 ∗ bfO c 0 (wB m c 0) ∗ oO c y0 ∗ wO m c 3 ∗ bufO c 1 (wS m c 1)
      ∗ wFree c 1 ∗ wFly m c 0 2)
      ⊢ iprop(iprop(iprop(ow c 0 ∗ posR c 0 1 ∗ bfO c 0 (wB m c 2) ∗ oO c (acc0 m c) ∗ cmO c 0 (cB m c 0) ∗ retX m c 0 ∗ wFly m c 1 3
        ∗ bufO c 0 (wS m c 2) ∗ wO m c 2 ∗ wFree c 0) -∗ Kt ⟨⟩)
          -∗ WP c (k0_part10 (F := F) xM h0 wM h1 (Memref.whole cc0_stg1_0) h2 (Memref.whole cc0_stg2_0) h3 oM h4 cM h5 bufM h6 bfM h7 cc0_scratch3 cc0_scratch4 cc0_scratch5 ) Kt) := by
  simp only [k0_part10_eq_skeleton]
  unfold k0_part10_skel
  simp only [semSignalWord, semWaitWord, Prog.lift, Prog.bind_op, Prog.bind_ret, Prog.pure_eq_ret, Prog.bind_assoc, wp_deviceId]
  iintro ⟨#HR, HO, R0, P0, A0, Ho, W3, B1, F1, L0⟩ Hk
  iapply (st_recv m K c 0 (recv_at (rfl : (![0] : Fin 1 → ℕ) = ![(0 : Fin 8).val]) _) (rfl : (![0, 0, 0] : Fin 3 → ℕ) = ![(0 : Fin 8).val, 0, 0])) $$ [HO R0 P0]
  · isplitr; · iexact HR
    isplitl [HO]; · iexact HO
    isplitl [R0]; · iexact R0
    iexact P0
  iintro ⟨HO, P0, M0, X0⟩
  iapply (st_load_c c 0 _ (rfl : (![0, 0, 0] : Fin 3 → ℕ) = ![(0 : Fin 8).val, 0, 0])) $$ M0
  iintro M0
  iapply (st_load_bf c 0 _ (rfl : (![0, 0, 0] : Fin 3 → ℕ) = ![(0 : Fin 2).val, 0, 0])) $$ A0
  iintro A0
  iapply (st_load_out c _) $$ Ho
  iintro Ho
  iapply (st_store_out c _ (acc0 m c)) $$ Ho
  iintro Ho
  iapply (st_wstart m c 1 3 (rfl : (![1536, 0] : Fin 2 → ℕ) = ![512 * (3 : Fin 8).val, 0]) (rfl : (![1, 0, 0] : Fin 3 → ℕ) = ![(1 : Fin 2).val, 0, 0]) (w_at (rfl : (![1] : Fin 1 → ℕ) = ![(1 : Fin 2).val]) _)) $$ [W3 B1 F1]
  · isplitl [W3]; · iexact W3
    isplitl [B1]; · iexact B1
    iexact F1
  iintro L1
  iapply (st_wwait m c 0 2 (rfl : (![0, 0, 0] : Fin 3 → ℕ) = ![(0 : Fin 2).val, 0, 0]) (w_at (rfl : (![0] : Fin 1 → ℕ) = ![(0 : Fin 2).val]) _)) $$ [L0 HO]
  · isplitl [L0]; · iexact L0
    iexact HO
  iintro ⟨B0, W2, F0, HO⟩
  iapply (st_load_buf c 0 _ (rfl : (![0, 0, 0] : Fin 3 → ℕ) = ![(0 : Fin 2).val, 0, 0])) $$ B0
  iintro B0
  iapply (st_load_bf c 0 _ (rfl : (![0, 0, 0] : Fin 3 → ℕ) = ![(0 : Fin 2).val, 0, 0])) $$ A0
  iintro A0
  iapply (st_store_bf c 0 _ (wB m c 2) (rfl : (![0, 0, 0] : Fin 3 → ℕ) = ![(0 : Fin 2).val, 0, 0])) $$ A0
  iintro A0
  iapply st_ret
  iapply Hk
  isplitl [HO]; · iexact HO
  isplitl [P0]; · iexact P0
  isplitl [A0]; · iexact A0
  isplitl [Ho]; · iexact Ho
  isplitl [M0]; · iexact M0
  isplitl [X0]; · iexact X0
  isplitl [L1]; · iexact L1
  isplitl [B0]; · iexact B0
  isplitl [W2]; · iexact W2
  iexact F0

/-- The second landing and product; block 4 starts. -/
theorem part11_wp (v2 : BitVec 32) {Kt : _ → sProp 𝕄} :
    iprop(records m K ∗ ow c 0 ∗ credR c 1 ∗ posR c 1 0 ∗ bfO c 1 (wB m c 1) ∗ oO c (acc0 m c) ∗ wO m c 4
      ∗ bufO c 0 (wS m c 2) ∗ wFree c 0)
      ⊢ iprop(iprop(iprop(ow c 0 ∗ posR c 1 1 ∗ bfO c 1 (wB m c 1) ∗ oO c (acc1 m c) ∗ cmO c 1 (cB m c 1) ∗ retX m c 1 ∗ wFly m c 0 4) -∗ Kt ⟨⟩)
          -∗ WP c (k0_part11 (F := F) xM h0 wM h1 (Memref.whole cc0_stg1_0) h2 (Memref.whole cc0_stg2_0) h3 oM h4 cM h5 bufM h6 bfM h7 cc0_scratch3 cc0_scratch4 cc0_scratch5 v2) Kt) := by
  simp only [k0_part11_eq_skeleton]
  unfold k0_part11_skel
  simp only [semSignalWord, semWaitWord, Prog.lift, Prog.bind_op, Prog.bind_ret, Prog.pure_eq_ret, Prog.bind_assoc, wp_deviceId]
  iintro ⟨#HR, HO, R1, P1, A1, Ho, W4, B0, F0⟩ Hk
  iapply (st_recv m K c 1 (recv_at (rfl : (![1] : Fin 1 → ℕ) = ![(1 : Fin 8).val]) _) (rfl : (![1, 0, 0] : Fin 3 → ℕ) = ![(1 : Fin 8).val, 0, 0])) $$ [HO R1 P1]
  · isplitr; · iexact HR
    isplitl [HO]; · iexact HO
    isplitl [R1]; · iexact R1
    iexact P1
  iintro ⟨HO, P1, M1, X1⟩
  iapply (st_load_c c 1 _ (rfl : (![1, 0, 0] : Fin 3 → ℕ) = ![(1 : Fin 8).val, 0, 0])) $$ M1
  iintro M1
  iapply (st_load_bf c 1 _ (rfl : (![1, 0, 0] : Fin 3 → ℕ) = ![(1 : Fin 2).val, 0, 0])) $$ A1
  iintro A1
  iapply (st_load_out c _) $$ Ho
  iintro Ho
  iapply (st_load_out c _) $$ Ho
  iintro Ho
  iapply (st_store_out c _ (acc1 m c)) $$ Ho
  iintro Ho
  iapply (st_wstart m c 0 4 (rfl : (![2048, 0] : Fin 2 → ℕ) = ![512 * (4 : Fin 8).val, 0]) (rfl : (![0, 0, 0] : Fin 3 → ℕ) = ![(0 : Fin 2).val, 0, 0]) (w_at (rfl : (![0] : Fin 1 → ℕ) = ![(0 : Fin 2).val]) _)) $$ [W4 B0 F0]
  · isplitl [W4]; · iexact W4
    isplitl [B0]; · iexact B0
    iexact F0
  iintro L0
  iapply st_ret
  iapply Hk
  isplitl [HO]; · iexact HO
  isplitl [P1]; · iexact P1
  isplitl [A1]; · iexact A1
  isplitl [Ho]; · iexact Ho
  isplitl [M1]; · iexact M1
  isplitl [X1]; · iexact X1
  iexact L0

/-- Block 3 arrives and is converted; the third landing and product. -/
theorem part12_wp (v2 : BitVec 32) {Kt : _ → sProp 𝕄} :
    iprop(records m K ∗ wFly m c 1 3 ∗ ow c 0 ∗ bfO c 1 (wB m c 1) ∗ credR c 2 ∗ posR c 2 0 ∗ bfO c 0 (wB m c 2)
      ∗ oO c (acc1 m c))
      ⊢ iprop(iprop(iprop(ow c 0 ∗ bfO c 1 (wB m c 3) ∗ posR c 2 1 ∗ bfO c 0 (wB m c 2) ∗ oO c (acc2 m c) ∗ bufO c 1 (wS m c 3) ∗ wO m c 3
        ∗ wFree c 1 ∗ cmO c 2 (cB m c 2) ∗ retX m c 2) -∗ Kt ⟨⟩)
          -∗ WP c (k0_part12 (F := F) xM h0 wM h1 (Memref.whole cc0_stg1_0) h2 (Memref.whole cc0_stg2_0) h3 oM h4 cM h5 bufM h6 bfM h7 cc0_scratch3 cc0_scratch4 cc0_scratch5 v2) Kt) := by
  simp only [k0_part12_eq_skeleton]
  unfold k0_part12_skel
  simp only [semSignalWord, semWaitWord, Prog.lift, Prog.bind_op, Prog.bind_ret, Prog.pure_eq_ret, Prog.bind_assoc, wp_deviceId]
  iintro ⟨#HR, L1, HO, A1, R2, P2, A0, Ho⟩ Hk
  iapply (st_wwait m c 1 3 (rfl : (![1, 0, 0] : Fin 3 → ℕ) = ![(1 : Fin 2).val, 0, 0]) (w_at (rfl : (![1] : Fin 1 → ℕ) = ![(1 : Fin 2).val]) _)) $$ [L1 HO]
  · isplitl [L1]; · iexact L1
    iexact HO
  iintro ⟨B1, W3, F1, HO⟩
  iapply (st_load_buf c 1 _ (rfl : (![1, 0, 0] : Fin 3 → ℕ) = ![(1 : Fin 2).val, 0, 0])) $$ B1
  iintro B1
  iapply (st_load_bf c 1 _ (rfl : (![1, 0, 0] : Fin 3 → ℕ) = ![(1 : Fin 2).val, 0, 0])) $$ A1
  iintro A1
  iapply (st_store_bf c 1 _ (wB m c 3) (rfl : (![1, 0, 0] : Fin 3 → ℕ) = ![(1 : Fin 2).val, 0, 0])) $$ A1
  iintro A1
  iapply (st_recv m K c 2 (recv_at (rfl : (![2] : Fin 1 → ℕ) = ![(2 : Fin 8).val]) _) (rfl : (![2, 0, 0] : Fin 3 → ℕ) = ![(2 : Fin 8).val, 0, 0])) $$ [HO R2 P2]
  · isplitr; · iexact HR
    isplitl [HO]; · iexact HO
    isplitl [R2]; · iexact R2
    iexact P2
  iintro ⟨HO, P2, M2, X2⟩
  iapply (st_load_c c 2 _ (rfl : (![2, 0, 0] : Fin 3 → ℕ) = ![(2 : Fin 8).val, 0, 0])) $$ M2
  iintro M2
  iapply (st_load_bf c 0 _ (rfl : (![0, 0, 0] : Fin 3 → ℕ) = ![(0 : Fin 2).val, 0, 0])) $$ A0
  iintro A0
  iapply (st_load_out c _) $$ Ho
  iintro Ho
  iapply (st_load_out c _) $$ Ho
  iintro Ho
  iapply (st_store_out c _ (acc2 m c)) $$ Ho
  iintro Ho
  iapply st_ret
  iapply Hk
  isplitl [HO]; · iexact HO
  isplitl [A1]; · iexact A1
  isplitl [P2]; · iexact P2
  isplitl [A0]; · iexact A0
  isplitl [Ho]; · iexact Ho
  isplitl [B1]; · iexact B1
  isplitl [W3]; · iexact W3
  isplitl [F1]; · iexact F1
  isplitl [M2]; · iexact M2
  iexact X2

/-- Block 5 starts, block 4 arrives and is converted; the fourth landing. -/
theorem part13_wp (v2 : BitVec 32) {Kt : _ → sProp 𝕄} :
    iprop(records m K ∗ wO m c 5 ∗ bufO c 1 (wS m c 3) ∗ wFree c 1 ∗ wFly m c 0 4 ∗ ow c 0 ∗ bfO c 0 (wB m c 2) ∗ credR c 3
      ∗ posR c 3 0)
      ⊢ iprop(iprop(iprop(ow c 0 ∗ bfO c 0 (wB m c 4) ∗ posR c 3 1 ∗ wFly m c 1 5 ∗ bufO c 0 (wS m c 4) ∗ wO m c 4 ∗ wFree c 0
        ∗ cmO c 3 (cB m c 3) ∗ retX m c 3) -∗ Kt (k0_pay9 (cB m c 3)))
          -∗ WP c (k0_part13 (F := F) xM h0 wM h1 (Memref.whole cc0_stg1_0) h2 (Memref.whole cc0_stg2_0) h3 oM h4 cM h5 bufM h6 bfM h7 cc0_scratch3 cc0_scratch4 cc0_scratch5 v2) Kt) := by
  simp only [k0_part13_eq_skeleton]
  unfold k0_part13_skel
  simp only [semSignalWord, semWaitWord, Prog.lift, Prog.bind_op, Prog.bind_ret, Prog.pure_eq_ret, Prog.bind_assoc, wp_deviceId]
  iintro ⟨#HR, W5, B1, F1, L0, HO, A0, R3, P3⟩ Hk
  iapply (st_wstart m c 1 5 (rfl : (![2560, 0] : Fin 2 → ℕ) = ![512 * (5 : Fin 8).val, 0]) (rfl : (![1, 0, 0] : Fin 3 → ℕ) = ![(1 : Fin 2).val, 0, 0]) (w_at (rfl : (![1] : Fin 1 → ℕ) = ![(1 : Fin 2).val]) _)) $$ [W5 B1 F1]
  · isplitl [W5]; · iexact W5
    isplitl [B1]; · iexact B1
    iexact F1
  iintro L1
  iapply (st_wwait m c 0 4 (rfl : (![0, 0, 0] : Fin 3 → ℕ) = ![(0 : Fin 2).val, 0, 0]) (w_at (rfl : (![0] : Fin 1 → ℕ) = ![(0 : Fin 2).val]) _)) $$ [L0 HO]
  · isplitl [L0]; · iexact L0
    iexact HO
  iintro ⟨B0, W4, F0, HO⟩
  iapply (st_load_buf c 0 _ (rfl : (![0, 0, 0] : Fin 3 → ℕ) = ![(0 : Fin 2).val, 0, 0])) $$ B0
  iintro B0
  iapply (st_load_bf c 0 _ (rfl : (![0, 0, 0] : Fin 3 → ℕ) = ![(0 : Fin 2).val, 0, 0])) $$ A0
  iintro A0
  iapply (st_store_bf c 0 _ (wB m c 4) (rfl : (![0, 0, 0] : Fin 3 → ℕ) = ![(0 : Fin 2).val, 0, 0])) $$ A0
  iintro A0
  iapply (st_recv m K c 3 (recv_at (rfl : (![3] : Fin 1 → ℕ) = ![(3 : Fin 8).val]) _) (rfl : (![3, 0, 0] : Fin 3 → ℕ) = ![(3 : Fin 8).val, 0, 0])) $$ [HO R3 P3]
  · isplitr; · iexact HR
    isplitl [HO]; · iexact HO
    isplitl [R3]; · iexact R3
    iexact P3
  iintro ⟨HO, P3, M3, X3⟩
  iapply (st_load_c c 3 _ (rfl : (![3, 0, 0] : Fin 3 → ℕ) = ![(3 : Fin 8).val, 0, 0])) $$ M3
  iintro M3
  iapply st_ret
  iapply Hk
  isplitl [HO]; · iexact HO
  isplitl [A0]; · iexact A0
  isplitl [P3]; · iexact P3
  isplitl [L1]; · iexact L1
  isplitl [B0]; · iexact B0
  isplitl [W4]; · iexact W4
  isplitl [F0]; · iexact F0
  isplitl [M3]; · iexact M3
  iexact X3

end Cert.Mesh

end
-- ==== Proof.PartsC.lean ====
/-
# The kernel's parts: the remaining products and the departures
-/
module

public import proofs.«01_k».proof.Proof.Steps

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ) (c : Dev nD)
  (h0 : xM.IsWhole) (h1 : wM.IsWhole) (h2 : (Memref.whole cc0_stg1_0 : Memref sig .tc .smem S1 .f32).IsWhole)
  (h3 : (Memref.whole cc0_stg2_0 : Memref sig .tc .smem S1 .f32).IsWhole) (h4 : oM.IsWhole) (h5 : cM.IsWhole) (h6 : bufM.IsWhole) (h7 : bfM.IsWhole)
  {b0 b1 : S1x512x8192.Idx → Elt F .i8} {a0 a1 : S1x512x8192.Idx → Elt F .bf16} {y0 : S512x8192.Idx → Elt F .f32}

/-- The fourth product; block 6 starts, block 5 arrives and is converted. -/
theorem part14_wp (v2 : BitVec 32) {Kt : _ → sProp 𝕄} :
    iprop(bfO c 1 (wB m c 3) ∗ oO c (acc2 m c) ∗ wO m c 6 ∗ bufO c 0 (wS m c 4) ∗ wFree c 0 ∗ wFly m c 1 5 ∗ ow c 0)
      ⊢ iprop(iprop(∀ (r1 : BitVec 32), iprop(bfO c 1 (wB m c 5) ∗ oO c (acc3 m c) ∗ ow c 0 ∗ wFly m c 0 6 ∗ bufO c 1 (wS m c 5) ∗ wO m c 5 ∗ wFree c 1) -∗ Kt r1)
          -∗ WP c (k0_part14 (F := F) xM h0 wM h1 (Memref.whole cc0_stg1_0) h2 (Memref.whole cc0_stg2_0) h3 oM h4 cM h5 bufM h6 bfM h7 cc0_scratch3 cc0_scratch4 cc0_scratch5 v2 (k0_pay9 (cB m c 3))) Kt) := by
  simp only [k0_part14_eq_skeleton]
  unfold k0_part14_skel
  simp only [semSignalWord, semWaitWord, Prog.lift, Prog.bind_op, Prog.bind_ret, Prog.pure_eq_ret, Prog.bind_assoc, wp_deviceId]
  iintro ⟨A1, Ho, W6, B0, F0, L1, HO⟩ Hk
  iapply (st_load_bf c 1 _ (rfl : (![1, 0, 0] : Fin 3 → ℕ) = ![(1 : Fin 2).val, 0, 0])) $$ A1
  iintro A1
  iapply (st_load_out c _) $$ Ho
  iintro Ho
  iapply (st_load_out c _) $$ Ho
  iintro Ho
  iapply (st_store_out c _ (acc3 m c)) $$ Ho
  iintro Ho
  iapply (st_wstart m c 0 6 (rfl : (![3072, 0] : Fin 2 → ℕ) = ![512 * (6 : Fin 8).val, 0]) (rfl : (![0, 0, 0] : Fin 3 → ℕ) = ![(0 : Fin 2).val, 0, 0]) (w_at (rfl : (![0] : Fin 1 → ℕ) = ![(0 : Fin 2).val]) _)) $$ [W6 B0 F0]
  · isplitl [W6]; · iexact W6
    isplitl [B0]; · iexact B0
    iexact F0
  iintro L0
  iapply (st_wwait m c 1 5 (rfl : (![1, 0, 0] : Fin 3 → ℕ) = ![(1 : Fin 2).val, 0, 0]) (w_at (rfl : (![1] : Fin 1 → ℕ) = ![(1 : Fin 2).val]) _)) $$ [L1 HO]
  · isplitl [L1]; · iexact L1
    iexact HO
  iintro ⟨B1, W5, F1, HO⟩
  iapply (st_load_buf c 1 _ (rfl : (![1, 0, 0] : Fin 3 → ℕ) = ![(1 : Fin 2).val, 0, 0])) $$ B1
  iintro B1
  iapply (st_load_bf c 1 _ (rfl : (![1, 0, 0] : Fin 3 → ℕ) = ![(1 : Fin 2).val, 0, 0])) $$ A1
  iintro A1
  iapply (st_store_bf c 1 _ (wB m c 5) (rfl : (![1, 0, 0] : Fin 3 → ℕ) = ![(1 : Fin 2).val, 0, 0])) $$ A1
  iintro A1
  iapply st_ret
  iapply Hk
  isplitl [A1]; · iexact A1
  isplitl [Ho]; · iexact Ho
  isplitl [HO]; · iexact HO
  isplitl [L0]; · iexact L0
  isplitl [B1]; · iexact B1
  isplitl [W5]; · iexact W5
  iexact F1

/-- The fifth landing and product; block 7 starts, block 6 arrives. -/
theorem part15_wp (u1 : BitVec 32) {Kt : _ → sProp 𝕄} :
    iprop(records m K ∗ ow c 0 ∗ credR c 4 ∗ posR c 4 0 ∗ bfO c 0 (wB m c 4) ∗ oO c (acc3 m c) ∗ wO m c 7
      ∗ bufO c 1 (wS m c 5) ∗ wFree c 1 ∗ wFly m c 0 6)
      ⊢ iprop(iprop(iprop(ow c 0 ∗ posR c 4 1 ∗ bfO c 0 (wB m c 4) ∗ oO c (acc4 m c) ∗ cmO c 4 (cB m c 4) ∗ retX m c 4 ∗ wFly m c 1 7
        ∗ bufO c 0 (wS m c 6) ∗ wO m c 6 ∗ wFree c 0) -∗ Kt ⟨⟩)
          -∗ WP c (k0_part15 (F := F) xM h0 wM h1 (Memref.whole cc0_stg1_0) h2 (Memref.whole cc0_stg2_0) h3 oM h4 cM h5 bufM h6 bfM h7 cc0_scratch3 cc0_scratch4 cc0_scratch5 u1) Kt) := by
  simp only [k0_part15_eq_skeleton]
  unfold k0_part15_skel
  simp only [semSignalWord, semWaitWord, Prog.lift, Prog.bind_op, Prog.bind_ret, Prog.pure_eq_ret, Prog.bind_assoc, wp_deviceId]
  iintro ⟨#HR, HO, R4, P4, A0, Ho, W7, B1, F1, L0⟩ Hk
  iapply (st_recv m K c 4 (recv_at (rfl : (![4] : Fin 1 → ℕ) = ![(4 : Fin 8).val]) _) (rfl : (![4, 0, 0] : Fin 3 → ℕ) = ![(4 : Fin 8).val, 0, 0])) $$ [HO R4 P4]
  · isplitr; · iexact HR
    isplitl [HO]; · iexact HO
    isplitl [R4]; · iexact R4
    iexact P4
  iintro ⟨HO, P4, M4, X4⟩
  iapply (st_load_c c 4 _ (rfl : (![4, 0, 0] : Fin 3 → ℕ) = ![(4 : Fin 8).val, 0, 0])) $$ M4
  iintro M4
  iapply (st_load_bf c 0 _ (rfl : (![0, 0, 0] : Fin 3 → ℕ) = ![(0 : Fin 2).val, 0, 0])) $$ A0
  iintro A0
  iapply (st_load_out c _) $$ Ho
  iintro Ho
  iapply (st_load_out c _) $$ Ho
  iintro Ho
  iapply (st_store_out c _ (acc4 m c)) $$ Ho
  iintro Ho
  iapply (st_wstart m c 1 7 (rfl : (![3584, 0] : Fin 2 → ℕ) = ![512 * (7 : Fin 8).val, 0]) (rfl : (![1, 0, 0] : Fin 3 → ℕ) = ![(1 : Fin 2).val, 0, 0]) (w_at (rfl : (![1] : Fin 1 → ℕ) = ![(1 : Fin 2).val]) _)) $$ [W7 B1 F1]
  · isplitl [W7]; · iexact W7
    isplitl [B1]; · iexact B1
    iexact F1
  iintro L1
  iapply (st_wwait m c 0 6 (rfl : (![0, 0, 0] : Fin 3 → ℕ) = ![(0 : Fin 2).val, 0, 0]) (w_at (rfl : (![0] : Fin 1 → ℕ) = ![(0 : Fin 2).val]) _)) $$ [L0 HO]
  · isplitl [L0]; · iexact L0
    iexact HO
  iintro ⟨B0, W6, F0, HO⟩
  iapply st_ret
  iapply Hk
  isplitl [HO]; · iexact HO
  isplitl [P4]; · iexact P4
  isplitl [A0]; · iexact A0
  isplitl [Ho]; · iexact Ho
  isplitl [M4]; · iexact M4
  isplitl [X4]; · iexact X4
  isplitl [L1]; · iexact L1
  isplitl [B0]; · iexact B0
  isplitl [W6]; · iexact W6
  iexact F0

/-- Block 6 is converted; the sixth landing and product. -/
theorem part16_wp (v2 : BitVec 32) {Kt : _ → sProp 𝕄} :
    iprop(records m K ∗ bufO c 0 (wS m c 6) ∗ bfO c 0 (wB m c 4) ∗ ow c 0 ∗ credR c 5 ∗ posR c 5 0 ∗ bfO c 1 (wB m c 5)
      ∗ oO c (acc4 m c))
      ⊢ iprop(iprop(iprop(bufO c 0 (wS m c 6) ∗ bfO c 0 (wB m c 6) ∗ ow c 0 ∗ posR c 5 1 ∗ bfO c 1 (wB m c 5) ∗ oO c (acc5 m c)
        ∗ cmO c 5 (cB m c 5) ∗ retX m c 5) -∗ Kt ⟨⟩)
          -∗ WP c (k0_part16 (F := F) xM h0 wM h1 (Memref.whole cc0_stg1_0) h2 (Memref.whole cc0_stg2_0) h3 oM h4 cM h5 bufM h6 bfM h7 cc0_scratch3 cc0_scratch4 cc0_scratch5 v2) Kt) := by
  simp only [k0_part16_eq_skeleton]
  unfold k0_part16_skel
  simp only [semSignalWord, semWaitWord, Prog.lift, Prog.bind_op, Prog.bind_ret, Prog.pure_eq_ret, Prog.bind_assoc, wp_deviceId]
  iintro ⟨#HR, B0, A0, HO, R5, P5, A1, Ho⟩ Hk
  iapply (st_load_buf c 0 _ (rfl : (![0, 0, 0] : Fin 3 → ℕ) = ![(0 : Fin 2).val, 0, 0])) $$ B0
  iintro B0
  iapply (st_load_bf c 0 _ (rfl : (![0, 0, 0] : Fin 3 → ℕ) = ![(0 : Fin 2).val, 0, 0])) $$ A0
  iintro A0
  iapply (st_store_bf c 0 _ (wB m c 6) (rfl : (![0, 0, 0] : Fin 3 → ℕ) = ![(0 : Fin 2).val, 0, 0])) $$ A0
  iintro A0
  iapply (st_recv m K c 5 (recv_at (rfl : (![5] : Fin 1 → ℕ) = ![(5 : Fin 8).val]) _) (rfl : (![5, 0, 0] : Fin 3 → ℕ) = ![(5 : Fin 8).val, 0, 0])) $$ [HO R5 P5]
  · isplitr; · iexact HR
    isplitl [HO]; · iexact HO
    isplitl [R5]; · iexact R5
    iexact P5
  iintro ⟨HO, P5, M5, X5⟩
  iapply (st_load_c c 5 _ (rfl : (![5, 0, 0] : Fin 3 → ℕ) = ![(5 : Fin 8).val, 0, 0])) $$ M5
  iintro M5
  iapply (st_load_bf c 1 _ (rfl : (![1, 0, 0] : Fin 3 → ℕ) = ![(1 : Fin 2).val, 0, 0])) $$ A1
  iintro A1
  iapply (st_load_out c _) $$ Ho
  iintro Ho
  iapply (st_load_out c _) $$ Ho
  iintro Ho
  iapply (st_store_out c _ (acc5 m c)) $$ Ho
  iintro Ho
  iapply st_ret
  iapply Hk
  isplitl [B0]; · iexact B0
  isplitl [A0]; · iexact A0
  isplitl [HO]; · iexact HO
  isplitl [P5]; · iexact P5
  isplitl [A1]; · iexact A1
  isplitl [Ho]; · iexact Ho
  isplitl [M5]; · iexact M5
  iexact X5

/-- Block 7 arrives and is converted; the seventh landing and product. -/
theorem part17_wp (v2 : BitVec 32) {Kt : _ → sProp 𝕄} :
    iprop(records m K ∗ wFly m c 1 7 ∗ ow c 0 ∗ bfO c 1 (wB m c 5) ∗ credR c 6 ∗ posR c 6 0 ∗ bfO c 0 (wB m c 6)
      ∗ oO c (acc5 m c))
      ⊢ iprop(iprop(iprop(ow c 0 ∗ bfO c 1 (wB m c 7) ∗ posR c 6 1 ∗ bfO c 0 (wB m c 6) ∗ oO c (acc6 m c) ∗ bufO c 1 (wS m c 7) ∗ wO m c 7
        ∗ wFree c 1 ∗ cmO c 6 (cB m c 6) ∗ retX m c 6) -∗ Kt ⟨⟩)
          -∗ WP c (k0_part17 (F := F) xM h0 wM h1 (Memref.whole cc0_stg1_0) h2 (Memref.whole cc0_stg2_0) h3 oM h4 cM h5 bufM h6 bfM h7 cc0_scratch3 cc0_scratch4 cc0_scratch5 v2) Kt) := by
  simp only [k0_part17_eq_skeleton]
  unfold k0_part17_skel
  simp only [semSignalWord, semWaitWord, Prog.lift, Prog.bind_op, Prog.bind_ret, Prog.pure_eq_ret, Prog.bind_assoc, wp_deviceId]
  iintro ⟨#HR, L1, HO, A1, R6, P6, A0, Ho⟩ Hk
  iapply (st_wwait m c 1 7 (rfl : (![1, 0, 0] : Fin 3 → ℕ) = ![(1 : Fin 2).val, 0, 0]) (w_at (rfl : (![1] : Fin 1 → ℕ) = ![(1 : Fin 2).val]) _)) $$ [L1 HO]
  · isplitl [L1]; · iexact L1
    iexact HO
  iintro ⟨B1, W7, F1, HO⟩
  iapply (st_load_buf c 1 _ (rfl : (![1, 0, 0] : Fin 3 → ℕ) = ![(1 : Fin 2).val, 0, 0])) $$ B1
  iintro B1
  iapply (st_load_bf c 1 _ (rfl : (![1, 0, 0] : Fin 3 → ℕ) = ![(1 : Fin 2).val, 0, 0])) $$ A1
  iintro A1
  iapply (st_store_bf c 1 _ (wB m c 7) (rfl : (![1, 0, 0] : Fin 3 → ℕ) = ![(1 : Fin 2).val, 0, 0])) $$ A1
  iintro A1
  iapply (st_recv m K c 6 (recv_at (rfl : (![6] : Fin 1 → ℕ) = ![(6 : Fin 8).val]) _) (rfl : (![6, 0, 0] : Fin 3 → ℕ) = ![(6 : Fin 8).val, 0, 0])) $$ [HO R6 P6]
  · isplitr; · iexact HR
    isplitl [HO]; · iexact HO
    isplitl [R6]; · iexact R6
    iexact P6
  iintro ⟨HO, P6, M6, X6⟩
  iapply (st_load_c c 6 _ (rfl : (![6, 0, 0] : Fin 3 → ℕ) = ![(6 : Fin 8).val, 0, 0])) $$ M6
  iintro M6
  iapply (st_load_bf c 0 _ (rfl : (![0, 0, 0] : Fin 3 → ℕ) = ![(0 : Fin 2).val, 0, 0])) $$ A0
  iintro A0
  iapply (st_load_out c _) $$ Ho
  iintro Ho
  iapply (st_load_out c _) $$ Ho
  iintro Ho
  iapply (st_store_out c _ (acc6 m c)) $$ Ho
  iintro Ho
  iapply st_ret
  iapply Hk
  isplitl [HO]; · iexact HO
  isplitl [A1]; · iexact A1
  isplitl [P6]; · iexact P6
  isplitl [A0]; · iexact A0
  isplitl [Ho]; · iexact Ho
  isplitl [B1]; · iexact B1
  isplitl [W7]; · iexact W7
  isplitl [F1]; · iexact F1
  isplitl [M6]; · iexact M6
  iexact X6

/-- The eighth landing and product; the scaling and the cut at zero. -/
theorem part18_wp (v2 : BitVec 32) {Kt : _ → sProp 𝕄} :
    iprop(records m K ∗ ow c 0 ∗ credR c 7 ∗ posR c 7 0 ∗ bfO c 1 (wB m c 7) ∗ oO c (acc6 m c) ∗ sxO m c ∗ swO m c)
      ⊢ iprop(iprop(iprop(ow c 0 ∗ posR c 7 1 ∗ bfO c 1 (wB m c 7) ∗ oO c (outAt m c) ∗ sxO m c ∗ swO m c ∗ cmO c 7 (cB m c 7) ∗ retX m c 7) -∗ Kt ⟨⟩)
          -∗ WP c (k0_part18 (F := F) xM h0 wM h1 (Memref.whole cc0_stg1_0) h2 (Memref.whole cc0_stg2_0) h3 oM h4 cM h5 bufM h6 bfM h7 cc0_scratch3 cc0_scratch4 cc0_scratch5 v2) Kt) := by
  simp only [k0_part18_eq_skeleton]
  unfold k0_part18_skel
  simp only [semSignalWord, semWaitWord, Prog.lift, Prog.bind_op, Prog.bind_ret, Prog.pure_eq_ret, Prog.bind_assoc, wp_deviceId]
  iintro ⟨#HR, HO, R7, P7, A1, Ho, Hx, Hy⟩ Hk
  iapply (st_recv m K c 7 (recv_at (rfl : (![7] : Fin 1 → ℕ) = ![(7 : Fin 8).val]) _) (rfl : (![7, 0, 0] : Fin 3 → ℕ) = ![(7 : Fin 8).val, 0, 0])) $$ [HO R7 P7]
  · isplitr; · iexact HR
    isplitl [HO]; · iexact HO
    isplitl [R7]; · iexact R7
    iexact P7
  iintro ⟨HO, P7, M7, X7⟩
  iapply (st_load_c c 7 _ (rfl : (![7, 0, 0] : Fin 3 → ℕ) = ![(7 : Fin 8).val, 0, 0])) $$ M7
  iintro M7
  iapply (st_load_bf c 1 _ (rfl : (![1, 0, 0] : Fin 3 → ℕ) = ![(1 : Fin 2).val, 0, 0])) $$ A1
  iintro A1
  iapply (st_load_out c _) $$ Ho
  iintro Ho
  iapply (st_load_out c _) $$ Ho
  iintro Ho
  iapply (st_store_out c _ (acc7 m c)) $$ Ho
  iintro Ho
  iapply (st_sx m c) $$ Hx
  iintro Hx
  iapply (st_sw m c) $$ Hy
  iintro Hy
  iapply (st_load_out c _) $$ Ho
  iintro Ho
  iapply (st_load_out c _) $$ Ho
  iintro Ho
  iapply (st_store_out c _ (outAt m c)) $$ Ho
  iintro Ho
  iapply st_ret
  iapply Hk
  isplitl [HO]; · iexact HO
  isplitl [P7]; · iexact P7
  isplitl [A1]; · iexact A1
  isplitl [Ho]; · iexact Ho
  isplitl [Hx]; · iexact Hx
  isplitl [Hy]; · iexact Hy
  isplitl [M7]; · iexact M7
  iexact X7

/-- Five of the transfers have left. -/
theorem part19_wp  {Kt : _ → sProp 𝕄} :
    iprop(records m K ∗ ow c 0 ∗ credS c 1 ∗ posS c 1 0 ∗ credS c 2 ∗ posS c 2 0 ∗ credS c 3 ∗ posS c 3 0 ∗ credS c 4
      ∗ posS c 4 0 ∗ credS c 5 ∗ posS c 5 0)
      ⊢ iprop(iprop(iprop(ow c 0 ∗ posS c 1 1 ∗ posS c 2 1 ∗ posS c 3 1 ∗ posS c 4 1 ∗ posS c 5 1 ∗ xO m c (peer c 1) ∗ xO m c (peer c 2)
        ∗ xO m c (peer c 3) ∗ xO m c (peer c 4) ∗ xO m c (peer c 5)) -∗ Kt ⟨⟩)
          -∗ WP c (k0_part19 (F := F) xM h0 wM h1 (Memref.whole cc0_stg1_0) h2 (Memref.whole cc0_stg2_0) h3 oM h4 cM h5 bufM h6 bfM h7 cc0_scratch3 cc0_scratch4 cc0_scratch5 c) Kt) := by
  simp only [k0_part19_eq_skeleton]
  unfold k0_part19_skel
  simp only [semSignalWord, semWaitWord, Prog.lift, Prog.bind_op, Prog.bind_ret, Prog.pure_eq_ret, Prog.bind_assoc, wp_deviceId]
  iintro ⟨#HR, HO, C1, Q1, C2, Q2, C3, Q3, C4, Q4, C5, Q5⟩ Hk
  iapply (st_sent m K c 1 (by decide) (send_at (rfl : (![1] : Fin 1 → ℕ) = ![(1 : Fin 8).val]) _) (peer c 1) (off4_eq1 c)) $$ [HO C1 Q1]
  · isplitr; · iexact HR
    isplitl [HO]; · iexact HO
    isplitl [C1]; · iexact C1
    iexact Q1
  iintro ⟨HO, Q1, Y1⟩
  iapply (st_sent m K c 2 (by decide) (send_at (rfl : (![2] : Fin 1 → ℕ) = ![(2 : Fin 8).val]) _) (peer c 2) (off4_eq2 c)) $$ [HO C2 Q2]
  · isplitr; · iexact HR
    isplitl [HO]; · iexact HO
    isplitl [C2]; · iexact C2
    iexact Q2
  iintro ⟨HO, Q2, Y2⟩
  iapply (st_sent m K c 3 (by decide) (send_at (rfl : (![3] : Fin 1 → ℕ) = ![(3 : Fin 8).val]) _) (peer c 3) (off4_eq3 c)) $$ [HO C3 Q3]
  · isplitr; · iexact HR
    isplitl [HO]; · iexact HO
    isplitl [C3]; · iexact C3
    iexact Q3
  iintro ⟨HO, Q3, Y3⟩
  iapply (st_sent m K c 4 (by decide) (send_at (rfl : (![4] : Fin 1 → ℕ) = ![(4 : Fin 8).val]) _) (peer c 4) (off4_eq4 c)) $$ [HO C4 Q4]
  · isplitr; · iexact HR
    isplitl [HO]; · iexact HO
    isplitl [C4]; · iexact C4
    iexact Q4
  iintro ⟨HO, Q4, Y4⟩
  iapply (st_sent m K c 5 (by decide) (send_at (rfl : (![5] : Fin 1 → ℕ) = ![(5 : Fin 8).val]) _) (peer c 5) (off4_eq5 c)) $$ [HO C5 Q5]
  · isplitr; · iexact HR
    isplitl [HO]; · iexact HO
    isplitl [C5]; · iexact C5
    iexact Q5
  iintro ⟨HO, Q5, Y5⟩
  iapply st_ret
  iapply Hk
  isplitl [HO]; · iexact HO
  isplitl [Q1]; · iexact Q1
  isplitl [Q2]; · iexact Q2
  isplitl [Q3]; · iexact Q3
  isplitl [Q4]; · iexact Q4
  isplitl [Q5]; · iexact Q5
  isplitl [Y1]; · iexact Y1
  isplitl [Y2]; · iexact Y2
  isplitl [Y3]; · iexact Y3
  isplitl [Y4]; · iexact Y4
  iexact Y5

end Cert.Mesh

end
-- ==== Proof.Body.lean ====
/-
# The kernel's body on one device
-/
module

public import proofs.«01_k».proof.Proof.PartsA
public import proofs.«01_k».proof.Proof.PartsB
public import proofs.«01_k».proof.Proof.PartsC

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 16 → ℕ) (c : Dev nD)
  (h0 : xM.IsWhole) (h1 : wM.IsWhole) (h2 : (Memref.whole cc0_stg1_0 : Memref sig .tc .smem S1 .f32).IsWhole)
  (h3 : (Memref.whole cc0_stg2_0 : Memref sig .tc .smem S1 .f32).IsWhole) (h4 : oM.IsWhole) (h5 : cM.IsWhole) (h6 : bufM.IsWhole) (h7 : bfM.IsWhole)
  {b0 b1 : S1x512x8192.Idx → Elt F .i8} {a0 a1 : S1x512x8192.Idx → Elt F .bf16} {y0 : S512x8192.Idx → Elt F .f32}

/-- What a device holds when its body starts, but the shared records. -/
def bodyHas (b0 b1 : S1x512x8192.Idx → Elt F .i8) (a0 a1 : S1x512x8192.Idx → Elt F .bf16) (y0 : S512x8192.Idx → Elt F .f32) : sProp 𝕄 :=
  iprop(ow c (oB c 7) ∗ sigR c 1 ∗ sendR m c 1 ∗ posS c 1 0 ∗ credR c (peer c 1) ∗ sigR c 2 ∗ sendR m c 2 ∗ posS c 2 0
    ∗ credR c (peer c 2) ∗ sigR c 3 ∗ sendR m c 3 ∗ posS c 3 0 ∗ credR c (peer c 3) ∗ sigR c 4 ∗ sendR m c 4
    ∗ posS c 4 0 ∗ credR c (peer c 4) ∗ sigR c 5 ∗ sendR m c 5 ∗ posS c 5 0 ∗ credR c (peer c 5) ∗ sigR c 6
    ∗ sendR m c 6 ∗ posS c 6 0 ∗ credR c (peer c 6) ∗ sigR c 7 ∗ sendR m c 7 ∗ posS c 7 0 ∗ credR c (peer c 7)
    ∗ cred (tallyAt (barCell c) () 7) ∗ posB c 0 ∗ barPay (F := F) c c ∗ dutyTok ER (recvCell c c) 0 0 ∗ xO m c c
    ∗ posR c 0 0 ∗ wO m c 0 ∗ posR c 1 0 ∗ wO m c 1 ∗ posR c 2 0 ∗ wO m c 2 ∗ posR c 3 0 ∗ wO m c 3 ∗ posR c 4 0
    ∗ wO m c 4 ∗ posR c 5 0 ∗ wO m c 5 ∗ posR c 6 0 ∗ wO m c 6 ∗ posR c 7 0 ∗ wO m c 7 ∗ bufO c 0 b0 ∗ bfO c 0 a0
    ∗ wFree c 0 ∗ bufO c 1 b1 ∗ bfO c 1 a1 ∗ wFree c 1 ∗ oO c y0 ∗ sxO m c ∗ swO m c)

/-- What it holds when its body ends: all contents known, every cell one round on. -/
def bodyLeaves : sProp 𝕄 :=
  iprop(bfO c 0 (wB m c 6) ∗ bfO c 1 (wB m c 7) ∗ bufO c 0 (wS m c 6) ∗ bufO c 1 (wS m c 7) ∗ wFree c 0 ∗ wFree c 1
    ∗ ow c 0 ∗ oO c (outAt m c) ∗ posB c 1 ∗ sxO m c ∗ swO m c ∗ cmO c 0 (cB m c 0) ∗ cmO c 1 (cB m c 1)
    ∗ cmO c 2 (cB m c 2) ∗ cmO c 3 (cB m c 3) ∗ cmO c 4 (cB m c 4) ∗ cmO c 5 (cB m c 5) ∗ cmO c 6 (cB m c 6)
    ∗ cmO c 7 (cB m c 7) ∗ posR c 0 1 ∗ posR c 1 1 ∗ posR c 2 1 ∗ posR c 3 1 ∗ posR c 4 1 ∗ posR c 5 1 ∗ posR c 6 1
    ∗ posR c 7 1 ∗ posS c 1 1 ∗ posS c 2 1 ∗ posS c 3 1 ∗ posS c 4 1 ∗ posS c 5 1 ∗ posS c 6 1 ∗ posS c 7 1
    ∗ wO m c 0 ∗ wO m c 1 ∗ wO m c 2 ∗ wO m c 3 ∗ wO m c 4 ∗ wO m c 5 ∗ wO m c 6 ∗ wO m c 7 ∗ retX m c 0
    ∗ retX m c 1 ∗ retX m c 2 ∗ retX m c 3 ∗ retX m c 4 ∗ retX m c 5 ∗ retX m c 6 ∗ retX m c 7 ∗ xO m c (peer c 1)
    ∗ xO m c (peer c 2) ∗ xO m c (peer c 3) ∗ xO m c (peer c 4) ∗ xO m c (peer c 5) ∗ xO m c (peer c 6)
    ∗ xO m c (peer c 7))

/-- The eight landings' credits, by place and by number. -/
theorem credR_all : iprop(credR (F := F) c c ∗ credR c (peer c 1) ∗ credR c (peer c 2) ∗ credR c (peer c 3) ∗ credR c (peer c 4) ∗ credR c (peer c 5)
      ∗ credR c (peer c 6) ∗ credR c (peer c 7))
    = iprop(credR c 0 ∗ credR c 1 ∗ credR c 2 ∗ credR c 3 ∗ credR c 4 ∗ credR c 5 ∗ credR c 6 ∗ credR c 7) := by
  have h := (bigSep_peers (F := F) c (fun j => credR c j)).symm.trans (bigSep_fin8 (F := F) (fun j => credR c j))
  rw [peer_zero] at h
  exact h

/-- The body's run. -/
theorem body_run {Kt : PUnit → sProp 𝕄} :
    iprop(records m K ∗ levAts L lv ∗ bodyHas m c b0 b1 a0 a1 y0)
      ⊢ iprop((bodyLeaves m c -∗ |={Set.univ}=> Kt ⟨⟩) -∗ WP c (cc0_body (F := F) xM h0 wM h1 (Memref.whole cc0_stg1_0) h2 (Memref.whole cc0_stg2_0) h3 oM h4 cM h5 bufM h6 bfM h7 cc0_scratch3 cc0_scratch4 cc0_scratch5) Kt) := by
  simp only [cc0_body_eq_skeleton]
  unfold cc0_body_skel bodyHas
  iintro ⟨#HR, #Hlev, HO, G1, S1, Q1, E1, G2, S2, Q2, E2, G3, S3, Q3, E3, G4, S4, Q4, E4, G5, S5, Q5, E5, G6, S6, Q6, E6, G7, S7, Q7, E7, HcB, HpB, Z0, T0, X0, P0, W0, P1, W1, P2, W2, P3, W3, P4, W4, P5, W5, P6, W6, P7, W7, B0, A0, F0, B1, A1, F1, Ho, Hx, Hy⟩ Hk
  iapply st_bind
  iapply (part1_wp m K c h0 h1 h2 h3 h4 h5 h6 h7 ) $$ [W0 B0 F0 HO G1]
  · isplitr; · iexact HR
    isplitl [W0]; · iexact W0
    isplitl [B0]; · iexact B0
    isplitl [F0]; · iexact F0
    isplitl [HO]; · iexact HO
    iexact G1
  iintro %v2 %v25 %v30 %v31 ⟨HO, L0⟩
  try dsimp only
  iapply st_bind
  iapply (part2_wp m K c h0 h1 h2 h3 h4 h5 h6 h7 v2 v25 v30 v31) $$ [HO G2 G3 G4]
  · isplitr; · iexact HR
    isplitl [HO]; · iexact HO
    isplitl [G2]; · iexact G2
    isplitl [G3]; · iexact G3
    iexact G4
  iintro %p1 %p2 %p3 HO
  try dsimp only
  iapply st_bind
  iapply (part3_wp m K c h0 h1 h2 h3 h4 h5 h6 h7 v2 p1 p2 p3) $$ [HO G5 G6]
  · isplitr; · iexact HR
    isplitl [HO]; · iexact HO
    isplitl [G5]; · iexact G5
    iexact G6
  iintro %q1 %q2 %q3 HO
  try dsimp only
  iapply st_bind
  iapply (part4_wp m K c h0 h1 h2 h3 h4 h5 h6 h7 v2 q1 q2 q3) $$ [HO G7 HcB HpB X0 Z0 T0 S1]
  · isplitr; · iexact HR
    isplitr; · iexact Hlev
    isplitl [HO]; · iexact HO
    isplitl [G7]; · iexact G7
    isplitl [HcB]; · iexact HcB
    isplitl [HpB]; · iexact HpB
    isplitl [X0]; · iexact X0
    isplitl [Z0]; · iexact Z0
    isplitl [T0]; · iexact T0
    iexact S1
  iintro %s1 %s2 ⟨HO, HpB, Z2, Z3, Z4, Z5, Z6, Z7, E0, C1⟩
  try dsimp only
  iapply st_bind
  iapply (part5_wp m K c h0 h1 h2 h3 h4 h5 h6 h7 v2 s1 s2) $$ [HO S2 Z2]
  · isplitr; · iexact HR
    isplitl [HO]; · iexact HO
    isplitl [S2]; · iexact S2
    iexact Z2
  iintro ⟨HO, C2⟩
  iapply st_bind
  iapply (part6_wp m K c h0 h1 h2 h3 h4 h5 h6 h7 v2) $$ [HO S3 Z3 S4 Z4]
  · isplitr; · iexact HR
    isplitl [HO]; · iexact HO
    isplitl [S3]; · iexact S3
    isplitl [Z3]; · iexact Z3
    isplitl [S4]; · iexact S4
    iexact Z4
  iintro %t1 %t2 %t3 %t4 ⟨HO, C3, C4⟩
  try dsimp only
  iapply st_bind
  iapply (part7_wp m K c h0 h1 h2 h3 h4 h5 h6 h7 v2 t1 t2 t3 t4) $$ [HO S5 Z5 S6 Z6]
  · isplitr; · iexact HR
    isplitl [HO]; · iexact HO
    isplitl [S5]; · iexact S5
    isplitl [Z5]; · iexact Z5
    isplitl [S6]; · iexact S6
    iexact Z6
  iintro %w1 %w2 ⟨HO, C5, C6⟩
  try dsimp only
  iapply st_bind
  iapply (part8_wp m K c h0 h1 h2 h3 h4 h5 h6 h7 w1 w2) $$ [HO S7 Z7 W1 B1 F1 L0]
  · isplitr; · iexact HR
    isplitl [HO]; · iexact HO
    isplitl [S7]; · iexact S7
    isplitl [Z7]; · iexact Z7
    isplitl [W1]; · iexact W1
    isplitl [B1]; · iexact B1
    isplitl [F1]; · iexact F1
    iexact L0
  iintro ⟨HO, C7, L1, B0, W0, F0⟩
  iapply st_bind
  iapply (part9_wp m c h0 h1 h2 h3 h4 h5 h6 h7 v2) $$ [B0 A0 W2 F0 L1 HO A1]
  · isplitl [B0]; · iexact B0
    isplitl [A0]; · iexact A0
    isplitl [W2]; · iexact W2
    isplitl [F0]; · iexact F0
    isplitl [L1]; · iexact L1
    isplitl [HO]; · iexact HO
    iexact A1
  iintro ⟨A0, HO, A1, L0, B1, W1, F1⟩
  ihave HC := (Entails.of_eq (credR_all c)) $$ [E0 E1 E2 E3 E4 E5 E6 E7]
  · isplitl [E0]; · iexact E0
    isplitl [E1]; · iexact E1
    isplitl [E2]; · iexact E2
    isplitl [E3]; · iexact E3
    isplitl [E4]; · iexact E4
    isplitl [E5]; · iexact E5
    isplitl [E6]; · iexact E6
    iexact E7
  icases HC with ⟨R0, R1, R2, R3, R4, R5, R6, R7⟩
  iapply st_bind
  iapply (part10_wp m K c h0 h1 h2 h3 h4 h5 h6 h7 ) $$ [HO R0 P0 A0 Ho W3 B1 F1 L0]
  · isplitr; · iexact HR
    isplitl [HO]; · iexact HO
    isplitl [R0]; · iexact R0
    isplitl [P0]; · iexact P0
    isplitl [A0]; · iexact A0
    isplitl [Ho]; · iexact Ho
    isplitl [W3]; · iexact W3
    isplitl [B1]; · iexact B1
    isplitl [F1]; · iexact F1
    iexact L0
  iintro ⟨HO, P0, A0, Ho, M0, X0, L1, B0, W2, F0⟩
  iapply st_bind
  iapply (part11_wp m K c h0 h1 h2 h3 h4 h5 h6 h7 v2) $$ [HO R1 P1 A1 Ho W4 B0 F0]
  · isplitr; · iexact HR
    isplitl [HO]; · iexact HO
    isplitl [R1]; · iexact R1
    isplitl [P1]; · iexact P1
    isplitl [A1]; · iexact A1
    isplitl [Ho]; · iexact Ho
    isplitl [W4]; · iexact W4
    isplitl [B0]; · iexact B0
    iexact F0
  iintro ⟨HO, P1, A1, Ho, M1, X1, L0⟩
  iapply st_bind
  iapply (part12_wp m K c h0 h1 h2 h3 h4 h5 h6 h7 v2) $$ [L1 HO A1 R2 P2 A0 Ho]
  · isplitr; · iexact HR
    isplitl [L1]; · iexact L1
    isplitl [HO]; · iexact HO
    isplitl [A1]; · iexact A1
    isplitl [R2]; · iexact R2
    isplitl [P2]; · iexact P2
    isplitl [A0]; · iexact A0
    iexact Ho
  iintro ⟨HO, A1, P2, A0, Ho, B1, W3, F1, M2, X2⟩
  iapply st_bind
  iapply (part13_wp m K c h0 h1 h2 h3 h4 h5 h6 h7 v2) $$ [W5 B1 F1 L0 HO A0 R3 P3]
  · isplitr; · iexact HR
    isplitl [W5]; · iexact W5
    isplitl [B1]; · iexact B1
    isplitl [F1]; · iexact F1
    isplitl [L0]; · iexact L0
    isplitl [HO]; · iexact HO
    isplitl [A0]; · iexact A0
    isplitl [R3]; · iexact R3
    iexact P3
  iintro ⟨HO, A0, P3, L1, B0, W4, F0, M3, X3⟩
  try dsimp only
  iapply st_bind
  iapply (part14_wp m c h0 h1 h2 h3 h4 h5 h6 h7 v2) $$ [A1 Ho W6 B0 F0 L1 HO]
  · isplitl [A1]; · iexact A1
    isplitl [Ho]; · iexact Ho
    isplitl [W6]; · iexact W6
    isplitl [B0]; · iexact B0
    isplitl [F0]; · iexact F0
    isplitl [L1]; · iexact L1
    iexact HO
  iintro %z1 ⟨A1, Ho, HO, L0, B1, W5, F1⟩
  try dsimp only
  iapply st_bind
  iapply (part15_wp m K c h0 h1 h2 h3 h4 h5 h6 h7 z1) $$ [HO R4 P4 A0 Ho W7 B1 F1 L0]
  · isplitr; · iexact HR
    isplitl [HO]; · iexact HO
    isplitl [R4]; · iexact R4
    isplitl [P4]; · iexact P4
    isplitl [A0]; · iexact A0
    isplitl [Ho]; · iexact Ho
    isplitl [W7]; · iexact W7
    isplitl [B1]; · iexact B1
    isplitl [F1]; · iexact F1
    iexact L0
  iintro ⟨HO, P4, A0, Ho, M4, X4, L1, B0, W6, F0⟩
  iapply st_bind
  iapply (part16_wp m K c h0 h1 h2 h3 h4 h5 h6 h7 v2) $$ [B0 A0 HO R5 P5 A1 Ho]
  · isplitr; · iexact HR
    isplitl [B0]; · iexact B0
    isplitl [A0]; · iexact A0
    isplitl [HO]; · iexact HO
    isplitl [R5]; · iexact R5
    isplitl [P5]; · iexact P5
    isplitl [A1]; · iexact A1
    iexact Ho
  iintro ⟨B0, A0, HO, P5, A1, Ho, M5, X5⟩
  iapply st_bind
  iapply (part17_wp m K c h0 h1 h2 h3 h4 h5 h6 h7 v2) $$ [L1 HO A1 R6 P6 A0 Ho]
  · isplitr; · iexact HR
    isplitl [L1]; · iexact L1
    isplitl [HO]; · iexact HO
    isplitl [A1]; · iexact A1
    isplitl [R6]; · iexact R6
    isplitl [P6]; · iexact P6
    isplitl [A0]; · iexact A0
    iexact Ho
  iintro ⟨HO, A1, P6, A0, Ho, B1, W7, F1, M6, X6⟩
  iapply st_bind
  iapply (part18_wp m K c h0 h1 h2 h3 h4 h5 h6 h7 v2) $$ [HO R7 P7 A1 Ho Hx Hy]
  · isplitr; · iexact HR
    isplitl [HO]; · iexact HO
    isplitl [R7]; · iexact R7
    isplitl [P7]; · iexact P7
    isplitl [A1]; · iexact A1
    isplitl [Ho]; · iexact Ho
    isplitl [Hx]; · iexact Hx
    iexact Hy
  iintro ⟨HO, P7, A1, Ho, Hx, Hy, M7, X7⟩
  iapply st_bind
  iapply (part19_wp m K c h0 h1 h2 h3 h4 h5 h6 h7 ) $$ [HO C1 Q1 C2 Q2 C3 Q3 C4 Q4 C5 Q5]
  · isplitr; · iexact HR
    isplitl [HO]; · iexact HO
    isplitl [C1]; · iexact C1
    isplitl [Q1]; · iexact Q1
    isplitl [C2]; · iexact C2
    isplitl [Q2]; · iexact Q2
    isplitl [C3]; · iexact C3
    isplitl [Q3]; · iexact Q3
    isplitl [C4]; · iexact C4
    isplitl [Q4]; · iexact Q4
    isplitl [C5]; · iexact C5
    iexact Q5
  iintro ⟨HO, Q1, Q2, Q3, Q4, Q5, Y1, Y2, Y3, Y4, Y5⟩
  simp only [semSignalWord, semWaitWord, Prog.lift, Prog.bind_op, Prog.bind_ret, Prog.pure_eq_ret, Prog.bind_assoc, wp_deviceId]
  iapply (st_sent m K c 6 (by decide) (send_at (rfl : (![6] : Fin 1 → ℕ) = ![(6 : Fin 8).val]) _) (peer c 6) (off4_eq6 c)) $$ [HO C6 Q6]
  · isplitr; · iexact HR
    isplitl [HO]; · iexact HO
    isplitl [C6]; · iexact C6
    iexact Q6
  iintro ⟨HO, Q6, Y6⟩
  iapply (st_sent m K c 7 (by decide) (send_at (rfl : (![7] : Fin 1 → ℕ) = ![(7 : Fin 8).val]) _) (peer c 7) (off4_eq7 c)) $$ [HO C7 Q7]
  · isplitr; · iexact HR
    isplitl [HO]; · iexact HO
    isplitl [C7]; · iexact C7
    iexact Q7
  iintro ⟨HO, Q7, Y7⟩
  iapply st_ret_upd
  iapply Hk
  unfold bodyLeaves
  isplitl [A0]; · iexact A0
  isplitl [A1]; · iexact A1
  isplitl [B0]; · iexact B0
  isplitl [B1]; · iexact B1
  isplitl [F0]; · iexact F0
  isplitl [F1]; · iexact F1
  isplitl [HO]; · iexact HO
  isplitl [Ho]; · iexact Ho
  isplitl [HpB]; · iexact HpB
  isplitl [Hx]; · iexact Hx
  isplitl [Hy]; · iexact Hy
  isplitl [M0]; · iexact M0
  isplitl [M1]; · iexact M1
  isplitl [M2]; · iexact M2
  isplitl [M3]; · iexact M3
  isplitl [M4]; · iexact M4
  isplitl [M5]; · iexact M5
  isplitl [M6]; · iexact M6
  isplitl [M7]; · iexact M7
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [Y1]; · iexact Y1
  isplitl [Y2]; · iexact Y2
  isplitl [Y3]; · iexact Y3
  isplitl [Y4]; · iexact Y4
  isplitl [Y5]; · iexact Y5
  isplitl [Y6]; · iexact Y6
  iexact Y7

end Cert.Mesh

end
-- ==== Proof.Launch.lean ====
/-
# The launch

What each device is given at the launch, what it hands back, and the run from them.
-/
module

public import proofs.«01_k».proof.Proof.Pieces
public import proofs.«01_k».proof.Proof.Body
public import proofs.«01_k».proof.Proof.Gen.KernelIdeal.Frame
public import Idealize.ShloMosaic.Lib.Pipeline.CollectiveSegs

@[expose] public section

set_option maxRecDepth 16384

noncomputable section

namespace Cert.Mesh

open Cert.KernelIdeal Cert.KernelIdeal.Gen

open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: departures, landings, and the two of `w`'s transfers. -/
abbrev osem : Fin 18 → SemLoc sig := fun k => .dma ⟨4 + k.val, by have := k.isLt; show 4 + k.val < 22; omega⟩

/-- The kernel's own semaphores are none of the pipeline's. -/
theorem ownSemFacts : Pipeline.OwnSemFacts cfg0.spec osem := by decide

/-- Different numbers name different semaphores. -/
theorem csem_inj : ∀ k k' : Fin 16, csem k = csem k' → k = k' := by decide +kernel

/-- Different device and number name different cells. -/
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_inj k k' (congrArg Prod.snd h)
  rw [h1, h2]

/-- Every device's cells. -/
def allCells : Finset (GSem nD τ sig) := Finset.univ.map ⟨kcell, kcell_injective⟩

/-- Which semaphore of a device a token is of, and which duty: a token of each other device at the barrier, one of each
    departure, one of each landing. -/
def tokSem (p : Fin 3 × Fin 8) : SemLoc sig × Fin 8 := match p.1 with
  | 0 => (.reg barS, p.2) | 1 => (.dma (sendSem p.2), 0) | 2 => (.dma (recvSem p.2), 0)

/-- Different tokens of a device are of different semaphores or payers. -/
theorem tokSem_inj : ∀ p q : Fin 3 × Fin 8, tokSem p = tokSem q → p = q := by decide +kernel

abbrev tokOf (x : Dev nD × (Fin 3 × Fin 8)) : GSem nD τ sig × ℕ × Fin 8 := (((x.1 : Thread nD τ), (tokSem x.2).1), 0, (tokSem x.2).2)

/-- Different tokens are of different duties. -/
theorem tokOf_injective : Function.Injective (tokOf : Dev nD × (Fin 3 × Fin 8) → GSem nD τ sig × ℕ × Fin 8) := by
  rintro ⟨c, p⟩ ⟨c', p'⟩ h
  have h1 : c = c' := congrArg (fun x : GSem nD τ sig × ℕ × Fin 8 => x.1.1.1) h
  have h2 : p = p' := tokSem_inj p p' (Prod.ext (congrArg (fun x : GSem nD τ sig × ℕ × Fin 8 => x.1.2) h) (congrArg (fun x : GSem nD τ sig × ℕ × Fin 8 => x.2.2) h))
  rw [h1, h2]

/-- Every device's tokens. -/
def allToks : Finset (GSem nD τ sig × ℕ × Fin 8) := Finset.univ.map ⟨tokOf, tokOf_injective⟩

/-- The ghost state at launch. -/
def u₀ : UU :=
  (initOf (Pipeline.cells cfgs cellOf_inj) (Pipeline.launchToks cfgs cellOf_inj), (initOf allCells allToks, (1 : Counters)))

omit [FloatOps F] in
/-- The algebra at launch gives the parts that the launch deals out. -/
theorem own_u₀ : (ownU u₀ : sProp 𝕄)
    ⊢ iprop(BI.own (EP (initOf (Pipeline.cells cfgs cellOf_inj) (Pipeline.launchToks cfgs cellOf_inj))) ∗ BI.own (ER (initOf allCells allToks))) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (initOf allCells allToks, (1 : Counters)))))

/-- The tokens of a device's own cells. -/
def toks (c : Dev nD) : sProp 𝕄 := bigSep Finset.univ fun p : Fin 3 × Fin 8 => dutyTok ER ((c : Thread nD τ), (tokSem p).1) 0 (tokSem p).2

/-- The tokens of what a device does: its signals, its departures, its landings elsewhere. -/
def payToks (c : Dev nD) : sProp 𝕄 :=
  iprop((bigSep Finset.univ fun e : Dev nD => dutyTok ER (barCell e) 0 c) ∗ (bigSep Finset.univ fun e : Fin 8 => dutyTok ER (sendCell c e) 0 0)
    ∗ (bigSep Finset.univ fun e : Dev nD => dutyTok ER (recvCell e c) 0 0))

omit [FloatOps F] in
/-- A family over three, one by one. -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- A family over sixteen, one by one. -/
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A device's tokens one by one. -/
theorem toks_eq (c : Dev nD) : toks (F := F) c
    = iprop((bigSep Finset.univ fun e : Fin 8 => dutyTok ER (barCell c) 0 e) ∗ (bigSep Finset.univ fun e : Fin 8 => dutyTok ER (sendCell c e) 0 0)
      ∗ (bigSep Finset.univ fun e : Fin 8 => dutyTok ER (recvCell c e) 0 0)) := by
  unfold toks; rw [bigSep_univ_prod, bigSep_fin3]; rfl

/-- The tokens go from the cells' owners to those who act on them. -/
theorem deal_toks : (bigSep Finset.univ fun c : Dev nD => toks (F := F) c) ⊢ bigSep Finset.univ fun c : Dev nD => payToks (F := F) c := by
  rw [bigSep_congr (s := Finset.univ) (fun c _ => toks_eq (F := F) c)]
  unfold payToks
  simp only [bigSep_sep']
  have h1 := bigSep_univ_comm (fun (c : Dev nD) (e : Fin 8) => (dutyTok ER (barCell c) 0 e : sProp 𝕄))
  have h2 := bigSep_univ_comm (fun (c : Dev nD) (e : Fin 8) => (dutyTok ER (recvCell c e) 0 0 : sProp 𝕄))
  iintro ⟨A, B, C⟩
  ihave A := (Entails.of_eq h1) $$ A
  ihave C := (Entails.of_eq h2) $$ C
  isplitl [A]; · iexact A
  isplitl [B]; · iexact B
  iexact C

/-! ## What the launch deals -/

/-- Semaphores no round is kept at. -/
def extra (c : Dev nD) : sProp 𝕄 := iprop(semVal (sendCell c 0) 0 ∗ wFree c 0 ∗ wFree c 1)

/-- What each device is funded with. -/
def G (c : Dev nD) : sProp 𝕄 :=
  iprop((bigSep Finset.univ fun k : Fin 16 => roundState ER (Rd m) (kcell (c, k)) 0)
    ∗ ((bigSep Finset.univ fun k : Fin 16 => atPos ER (kcell (c, k)) 0 ∅ 0) ∗ (bigSep Finset.univ fun k : Fin 16 => reached ER (kcell (c, k)) 0)) ∗ toks c)

/-- What a device holds alone when it starts. -/
def linear (c : Dev nD) : sProp 𝕄 :=
  iprop((bigSep Finset.univ fun k : Fin 16 => atPos ER (kcell (c, k)) 0 ∅ 0) ∗ payToks c ∗ extra c)

/-- What each device starts with, its cells being set up. -/
def G' (c : Dev nD) : sProp 𝕄 := iprop(∃ K, records m K ∗ linear c)

/-- The kernel's cells and tokens, dealt out to the devices. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Semaphores -/

omit [FloatOps F] in
/-- The kernel's own semaphores at zero, one by one. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (wCell c 0) 0 ∗ semVal (wCell c 1) 0) := by
  rw [Pipeline.ownSems0_eq_of_list c osem [0, 1, 2, 3, 4, 5, 6, 7, 8, 9, 10, 11, 12, 13, 14, 15, 16, 17] (by decide) (by decide)]; rfl

omit [FloatOps F] in
/-- The barrier semaphore at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's cells at zero, one by one. -/
theorem cellSems_eq (c : Dev nD) : (bigSep Finset.univ fun k : Fin 16 => (semVal (kcell (c, k)) 0 : sProp 𝕄)) = iprop(semVal (barCell c) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [bigSep_fin16]; rfl

omit [FloatOps F] in
/-- A device's semaphores at zero are its cells at zero, and the rest. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 16 => semVal (kcell (c, k)) 0) ∗ extra c) : sProp 𝕄) := by
  rw [ownSems0_eq, unscopedSems0_eq, cellSems_eq]
  unfold extra wFree
  iintro ⟨⟨S0, S1, S2, S3, S4, S5, S6, S7, V0, V1, V2, V3, V4, V5, V6, V7, F0, F1⟩, HB⟩
  isplitl [HB S1 S2 S3 S4 S5 S6 S7 V0 V1 V2 V3 V4 V5 V6 V7]
  · isplitl [HB]; · iexact HB
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  isplitl [S0]; · iexact S0
  isplitl [F0]; · iexact F0
  iexact F1

omit [FloatOps F] in
/-- And back. -/
theorem sems_join (c : Dev nD) : (iprop((bigSep Finset.univ fun k : Fin 16 => semVal (kcell (c, k)) 0) ∗ extra c) : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq, cellSems_eq]
  unfold extra wFree
  iintro ⟨⟨HB, S1, S2, S3, S4, S5, S6, S7, V0, V1, V2, V3, V4, V5, V6, V7⟩, ⟨S0, F0, F1⟩⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [F0]; · iexact F0
  iexact F1

/-! ## The cells allocated -/

/-- A device's semaphores become cells with their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 16 => iprop(∃ κ : ℕ, cellInv ER (Rd m) κ (kcell (c, k))))
        ∗ ((bigSep Finset.univ fun k : Fin 16 => atPos ER (kcell (c, k)) 0 ∅ 0) ∗ (bigSep Finset.univ fun k : Fin 16 => reached ER (kcell (c, k)) 0))
        ∗ toks c ∗ extra c) := by
  have halloc : iprop((bigSep Finset.univ fun k : Fin 16 => (semVal (kcell (c, k)) 0 : sProp 𝕄)) ∗ bigSep Finset.univ fun k : Fin 16 => roundState ER (Rd m) (kcell (c, k)) 0)
      ⊢ |={Set.univ}=> bigSep Finset.univ fun k : Fin 16 => iprop(∃ κ : ℕ, cellInv ER (Rd m) κ (kcell (c, k))) := by
    rw [← bigSep_sep']
    exact (bigSep_mono fun k _ => (Rounds.body_intro ER (Rd m) (kcell (c, k))).trans inv_alloc).trans (bigSep_fupd _ _)
  unfold G
  iintro ⟨Ho, Hu, Hst, Hp, Ht⟩
  ihave Hs := (sems_split (F := F) c) $$ [Ho Hu]
  · isplitl [Ho] <;> iassumption
  icases Hs with ⟨Hs, Hx⟩
  imod halloc $$ [Hs Hst] with HI
  · isplitl [Hs] <;> iassumption
  imodintro
  isplitl [HI]; · iexact HI
  isplitl [Hp]; · iexact Hp
  isplitl [Ht] <;> iassumption

/-- The records go to every device, the rest to each its own. -/
theorem deal_records (K : Dev nD × Fin 16 → ℕ) :
    iprop(records m K ∗ bigSep Finset.univ fun c : Dev nD => linear (F := F) c) ⊢ bigSep Finset.univ fun c : Dev nD => G' m c := by
  refine (show iprop(records m K ∗ bigSep Finset.univ fun c : Dev nD => linear (F := F) c)
      ⊢ iprop((bigSep Finset.univ fun _ : Dev nD => records m K) ∗ bigSep Finset.univ fun c : Dev nD => linear (F := F) c) from
    BI.sep_mono_l (BI.bigSep_of_persistent (Finset.univ : Finset (Dev nD)) (records m K))).trans ?_
  rw [← bigSep_sep']
  refine bigSep_mono fun c _ => ?_
  unfold G'
  show (iprop(records m K ∗ linear c) : sProp 𝕄) ⊢ iprop(∃ K, records m K ∗ linear c)
  iintro H
  iexists K
  iexact H

/-- What the devices set up together, each of them knows. -/
theorem regroup :
    (bigSep Finset.univ fun c : Dev nD => iprop((bigSep Finset.univ fun k : Fin 16 => iprop(∃ κ : ℕ, cellInv ER (Rd m) κ (kcell (c, k))))
        ∗ ((bigSep Finset.univ fun k : Fin 16 => atPos ER (kcell (c, k)) 0 ∅ 0) ∗ (bigSep Finset.univ fun k : Fin 16 => reached ER (kcell (c, k)) 0))
        ∗ toks c ∗ extra c) : sProp 𝕄)
      ⊢ bigSep Finset.univ fun c : Dev nD => G' m c := by
  rw [bigSep_sep', bigSep_sep', bigSep_sep', bigSep_sep']
  iintro ⟨HI, ⟨Hat, HR⟩, Htok, Hx⟩
  ihave HI := (Entails.of_eq (bigSep_univ_prod (fun ck : Dev nD × Fin 16 => (iprop(∃ κ : ℕ, cellInv ER (Rd m) κ (kcell ck)) : sProp 𝕄))).symm) $$ HI
  ihave HR := (Entails.of_eq (bigSep_univ_prod (fun ck : Dev nD × Fin 16 => (reached ER (kcell ck) 0 : sProp 𝕄))).symm) $$ HR
  ihave HK := (BI.bigSep_exists_pi Finset.univ (fun (ck : Dev nD × Fin 16) (κ : ℕ) => (cellInv ER (Rd m) κ (kcell ck) : sProp 𝕄))) $$ HI
  icases HK with ⟨%K, HI⟩
  ihave Hp := (deal_toks (F := F)) $$ Htok
  iapply (deal_records m K)
  isplitl [HI HR]
  · unfold records
    isplitl [HI] <;> iassumption
  unfold linear
  rw [bigSep_sep', bigSep_sep']
  isplitl [Hat]; · iexact Hat
  isplitl [Hp] <;> iassumption

/-- Every cell of the mesh is set up before any device starts. -/
theorem glob : (bigSep Finset.univ fun c : Dev nD => iprop(Pipeline.ownSems0 (Ix := Unit) (Name := ℕ) (U := UU) (Lvl := ℕ) (Val := Elt F) (τ := τ) osem c ∗ unscopedSems0 c ∗ G m c))
    ⊢ |={Set.univ}=> bigSep Finset.univ fun c : Dev nD => G' m c :=
  ((bigSep_mono fun c _ => core_alloc m c).trans (bigSep_fupd _ _)).trans (BI.fupd_mono (regroup m))

/-! ## Credits -/

/-- How many of the last `n` of a device's seven peers are `c`. -/
def hit (d c : Dev nD) : ℕ → ℕ
  | 0 => 0
  | n + 1 => hit d c n + if peer d (low8 (7 - n)) = c then 1 else 0

/-- In seven steps a device reaches every other device once. -/
theorem hit_all (d c : Dev nD) : hit d c 7 = if d = c then 0 else 1 := by revert d c; decide +kernel

/-- No landing is owed at a barrier cell. -/
theorem oS_bar (d c : Dev nD) (n : ℕ) : oS d n (barCell c) () = 0 := by
  by_contra h
  obtain ⟨e, he⟩ := oS_pos (Nat.pos_of_ne_zero h)
  exact nomatch (congrArg Prod.snd he : SemLoc.reg barS = SemLoc.dma (recvSem d))

/-- The signals owed at a barrier cell. -/
theorem oB_bar (d c : Dev nD) (n : ℕ) : oB d n (barCell c) () = hit d c n := by
  induction n with
  | zero => exact oS_bar d c 7
  | succ n ih =>
    show (oB d n + tallyAt (barCell (peer d (low8 (7 - n)))) () 1) (barCell c) () = hit d c n + if peer d (low8 (7 - n)) = c then 1 else 0
    rw [Pi.add_apply, Finsupp.add_apply, ih, tallyAt_apply]
    refine congrArg (hit d c n + ·) ?_
    by_cases hp : peer d (low8 (7 - n)) = c
    · rw [if_pos hp, if_pos ⟨by rw [hp], rfl⟩]
    · rw [if_neg hp, if_neg fun h => hp (congrArg (fun g : GSem nD τ sig => g.1.1) h.1).symm]

/-- The landings owed at a landing cell. -/
theorem oS_recv (d c j : Dev nD) (n : ℕ) : oS d n (recvCell c j) () = N * if d = j then hit d c n else 0 := by
  induction n with
  | zero => split <;> rfl
  | succ n ih =>
    show (oS d n + tallyAt (recvCell (peer d (low8 (7 - n))) d) () N) (recvCell c j) () = N * if d = j then hit d c n + (if peer d (low8 (7 - n)) = c then 1 else 0) else 0
    rw [Pi.add_apply, Finsupp.add_apply, ih, tallyAt_apply]
    by_cases hj : d = j
    · subst hj
      rw [if_pos rfl, if_pos rfl]
      by_cases hp : peer d (low8 (7 - n)) = c
      · rw [if_pos hp, if_pos ⟨by rw [hp], rfl⟩, Nat.mul_add, Nat.mul_one]
      · rw [if_neg hp, if_neg fun h => hp (congrArg (fun g : GSem nD τ sig => g.1.1) h.1).symm, Nat.add_zero, Nat.add_zero]
    · have hne : ¬ (recvCell c j = recvCell (peer d (low8 (7 - n))) d ∧ () = ()) := fun h => hj (by
        have h2 : SemLoc.dma (recvSem j) = (SemLoc.dma (recvSem d) : SemLoc sig) := congrArg Prod.snd h.1
        have h3 : (recvSem j).val = (recvSem d).val := congrArg (fun s : SemLoc sig => match s with | .dma q => q.val | _ => 0) h2
        exact Fin.ext (by have h4 : 12 + j.val = 12 + d.val := h3; omega))
      rw [if_neg hj, if_neg hj, if_neg hne, Nat.add_zero]

/-- Signals add nothing at a landing cell. -/
theorem oB_recv (d c j : Dev nD) (n : ℕ) : oB d n (recvCell c j) () = oS d 7 (recvCell c j) () := by
  induction n with
  | zero => rfl
  | succ n ih =>
    show (oB d n + tallyAt (barCell (peer d (low8 (7 - n)))) () 1) (recvCell c j) () = _
    rw [Pi.add_apply, Finsupp.add_apply, ih, tallyAt_apply, if_neg, Nat.add_zero]
    intro h
    exact nomatch (congrArg Prod.snd h.1 : SemLoc.dma (recvSem j) = SemLoc.reg barS)

/-- At launch every other device owes a barrier cell one unit. -/
theorem owed_bar (d c : Dev nD) : O₀ d (barCell c) () = if d = c then 0 else 1 := (oB_bar d c 7).trans (hit_all d c)
/-- At launch a landing cell is owed one block by the device it is named after. -/
theorem owed_recv (d c j : Dev nD) : O₀ d (recvCell c j) () = N * if d = j then (if d = c then 0 else 1) else 0 := by
  rw [← hit_all]; exact (oB_recv d c j 7).trans (oS_recv d c j 7)

/-- So a device's barrier cell may expect seven units. -/
theorem launch_bar (c : Dev nD) : (tallyOn (barCell c) (launchCredit (Pipeline.owing O₀) 0 (barCell c)) : CellTallies nD τ sig Unit) = tallyAt (barCell c) () 7 := by
  unfold tallyAt
  refine congrArg _ (Finsupp.ext fun u => ?_)
  cases u
  rw [Pipeline.launchCredit_owing, Finsupp.single_eq_same, Finset.sum_congr rfl fun d _ => owed_bar d c]
  revert c; decide

/-- And a landing cell one block. -/
theorem launch_recv (c j : Dev nD) (h : j ≠ c) : (tallyOn (recvCell c j) (launchCredit (Pipeline.owing O₀) 0 (recvCell c j)) : CellTallies nD τ sig Unit) = tallyAt (recvCell c j) () N := by
  unfold tallyAt
  refine congrArg _ (Finsupp.ext fun u => ?_)
  cases u
  rw [Pipeline.launchCredit_owing, Finsupp.single_eq_same, Finset.sum_congr rfl fun d _ => owed_recv d c j,
    Finset.sum_eq_single j (fun d _ hd => by rw [if_neg hd, Nat.mul_zero]) (fun h => absurd (Finset.mem_univ _) h), if_pos rfl, if_neg h, Nat.mul_one]

/-- What others owe a device: seven units at its barrier and a landing from each of them. -/
def creds (c : Dev nD) : sProp 𝕄 :=
  iprop(cred (tallyAt (barCell c) () 7) ∗ credR c (peer c 1) ∗ credR c (peer c 2) ∗ credR c (peer c 3) ∗ credR c (peer c 4) ∗ credR c (peer c 5) ∗ credR c (peer c 6) ∗ credR c (peer c 7))

/-- The semaphores on which a device expects something are all different. -/
theorem cred_sems (c : Dev nD) : ([SemLoc.reg barS, .dma (recvSem (peer c 1)), .dma (recvSem (peer c 2)), .dma (recvSem (peer c 3)), .dma (recvSem (peer c 4)), .dma (recvSem (peer c 5)), .dma (recvSem (peer c 6)), .dma (recvSem (peer c 7))] : List (SemLoc sig)).Nodup := by
  revert c; decide +kernel

/-- The same by the distance of the sender. -/
theorem launch_recv' (c : Dev nD) (d : Fin 8) (hd : d ≠ 0) :
    (cred (tallyOn (recvCell c (peer c d)) (launchCredit (Pipeline.owing O₀) 0 (recvCell c (peer c d)))) : sProp 𝕄) ⊢ credR c (peer c d) :=
  Entails.of_eq (congrArg cred (launch_recv c (peer c d) (ne_peer c d hd).symm))

omit [FloatOps F] in
/-- Of something held for every semaphore of a core, those listed. -/
theorem pick_sems (l : List (SemLoc sig)) (hl : l.Nodup) (Φ : SemLoc sig → sProp 𝕄) : bigSep Finset.univ Φ ⊢ bigSepL l Φ := by
  rw [← bigSep_eq_bigSepL_of_eq l rfl hl Φ]; exact bigSep_subset (Finset.subset_univ _)

/-- What a device may expect, cell by cell. -/
theorem creds_intro (c : Dev nD) : (Pipeline.launchCred O₀ c : sProp 𝕄) ⊢ creds c := by
  unfold Pipeline.launchCred
  refine (pick_sems _ (cred_sems c) _).trans ?_
  unfold creds
  exact BI.sep_mono (Entails.of_eq (congrArg cred (launch_bar c))) (BI.sep_mono (launch_recv' c 1 (by decide)) (BI.sep_mono (launch_recv' c 2 (by decide)) (BI.sep_mono (launch_recv' c 3 (by decide)) (BI.sep_mono (launch_recv' c 4 (by decide)) (BI.sep_mono (launch_recv' c 5 (by decide)) (BI.sep_mono (launch_recv' c 6 (by decide)) (launch_recv' c 7 (by decide))))))))

/-! ## What a device starts with and ends with -/

/-- The three scratch buffers, whatever they hold. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What a device's kernel starts with. -/
def start (c : Dev nD) : sProp 𝕄 := iprop(G' m c ∗ creds c ∗ levAts L lv ∗ wPts m c)
/-- What the kernel holds before the body. -/
def Φ₀ (c : Dev nD) : sProp 𝕄 := iprop(start m c ∗ scr c)
/-- What the kernel holds after the body. -/
def Φ₁ (c : Dev nD) : sProp 𝕄 :=
  iprop(((bigSep Finset.univ fun k : Fin 16 => semVal (kcell (c, k)) 0) ∗ extra c) ∗ wPts m c ∗ scr c)

/-- A device's places in its cells' rounds, one by one. -/
theorem pos_split (c : Dev nD) : (bigSep Finset.univ fun k : Fin 16 => (atPos ER (kcell (c, k)) 0 ∅ 0 : sProp 𝕄)) = iprop(posB c 0 ∗ posS c 1 0 ∗ posS c 2 0 ∗ posS c 3 0 ∗ posS c 4 0 ∗ posS c 5 0 ∗ posS c 6 0 ∗ posS c 7 0 ∗ posR c 0 0 ∗ posR c 1 0 ∗ posR c 2 0 ∗ posR c 3 0 ∗ posR c 4 0 ∗ posR c 5 0 ∗ posR c 6 0 ∗ posR c 7 0) := by
  rw [bigSep_fin16]; rfl

/-- What the body begins with, out of what the launch gives. -/
theorem has_intro (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (y0 : Buf (Elt F) ((c : Thread nD τ).loc cc0_stg3_0)) :
    iprop(linear c ∗ creds c ∗ wPts m c ∗ (((c : Thread nD τ).loc cc0_scratch0) ↦{fullShare} f0) ∗ (((c : Thread nD τ).loc cc0_scratch1) ↦{fullShare} f1)
        ∗ (((c : Thread nD τ).loc cc0_scratch2) ↦{fullShare} f2) ∗ ow c (oB c 7) ∗ (((c : Thread nD τ).loc cc0_stg0_0) ↦{fullShare} xstg m c)
        ∗ sxO m c ∗ swO m c ∗ oO c y0)
      ⊢ (iprop(bodyHas m c (fun j => f1 ((sr 0).emb j)) (fun j => f1 ((sr 1).emb j)) (fun j => f2 ((sr 0).emb j)) (fun j => f2 ((sr 1).emb j)) y0
        ∗ semVal (sendCell c 0) 0) : sProp 𝕄) := by
  unfold linear payToks extra creds
  iintro ⟨⟨Hpos, ⟨Hb, Hs, Hr⟩, HS0, HF0, HF1⟩, ⟨HcB, C1, C2, C3, C4, C5, C6, C7⟩, Hw, Hc, Hbuf, Hbf, HO, Hx, Hsx, Hsw, Hout⟩
  ihave Hpos := (Entails.of_eq (pos_split (F := F) c)) $$ Hpos
  icases Hpos with ⟨PB, Q1, Q2, Q3, Q4, Q5, Q6, Q7, P0, P1, P2, P3, P4, P5, P6, P7⟩
  ihave Hb := (Entails.of_eq (bigSep_peers (F := F) c (fun e => dutyTok ER (barCell e) 0 c))) $$ Hb
  icases Hb with ⟨-, B1, B2, B3, B4, B5, B6, B7⟩
  ihave Hr := (Entails.of_eq (bigSep_peers (F := F) c (fun e => dutyTok ER (recvCell e c) 0 0))) $$ Hr
  icases Hr with ⟨R0, R1, R2, R3, R4, R5, R6, R7⟩
  ihave R0 := (Entails.of_eq (congrArg (fun e : Dev nD => (dutyTok ER (recvCell e c) 0 0 : sProp 𝕄)) (peer_zero c))) $$ R0
  ihave Hs := (Entails.of_eq (bigSep_fin8 (F := F) (fun e => dutyTok ER (sendCell c e) 0 0))) $$ Hs
  icases Hs with ⟨-, S1, S2, S3, S4, S5, S6, S7⟩
  ihave Hc := (c_split c f0) $$ Hc
  icases Hc with ⟨Z0, Z1, Z2, Z3, Z4, Z5, Z6, Z7⟩
  ihave Hx := (x_split m c) $$ Hx
  icases Hx with ⟨X0, X1, X2, X3, X4, X5, X6, X7⟩
  ihave Hw := (w_split m c) $$ Hw
  icases Hw with ⟨W0, W1, W2, W3, W4, W5, W6, W7⟩
  ihave Hbuf := (buf_split c f1) $$ Hbuf
  icases Hbuf with ⟨U0, U1⟩
  ihave Hbf := (bf_split c f2) $$ Hbf
  icases Hbf with ⟨A0, A1⟩
  isplitr [HS0]
  · unfold bodyHas
    isplitl [HO]; · iexact HO
    isplitl [B1 Z1]
    · unfold sigR; isplitl [B1] <;> iassumption
    isplitl [R1 S1 X1]
    · unfold sendR
      isplitl [R1]; · iexact R1
      isplitl [S1] <;> iassumption
    isplitl [Q1]; · iexact Q1
    isplitl [C1]; · iexact C1
    isplitl [B2 Z2]
    · unfold sigR; isplitl [B2] <;> iassumption
    isplitl [R2 S2 X2]
    · unfold sendR
      isplitl [R2]; · iexact R2
      isplitl [S2] <;> iassumption
    isplitl [Q2]; · iexact Q2
    isplitl [C2]; · iexact C2
    isplitl [B3 Z3]
    · unfold sigR; isplitl [B3] <;> iassumption
    isplitl [R3 S3 X3]
    · unfold sendR
      isplitl [R3]; · iexact R3
      isplitl [S3] <;> iassumption
    isplitl [Q3]; · iexact Q3
    isplitl [C3]; · iexact C3
    isplitl [B4 Z4]
    · unfold sigR; isplitl [B4] <;> iassumption
    isplitl [R4 S4 X4]
    · unfold sendR
      isplitl [R4]; · iexact R4
      isplitl [S4] <;> iassumption
    isplitl [Q4]; · iexact Q4
    isplitl [C4]; · iexact C4
    isplitl [B5 Z5]
    · unfold sigR; isplitl [B5] <;> iassumption
    isplitl [R5 S5 X5]
    · unfold sendR
      isplitl [R5]; · iexact R5
      isplitl [S5] <;> iassumption
    isplitl [Q5]; · iexact Q5
    isplitl [C5]; · iexact C5
    isplitl [B6 Z6]
    · unfold sigR; isplitl [B6] <;> iassumption
    isplitl [R6 S6 X6]
    · unfold sendR
      isplitl [R6]; · iexact R6
      isplitl [S6] <;> iassumption
    isplitl [Q6]; · iexact Q6
    isplitl [C6]; · iexact C6
    isplitl [B7 Z7]
    · unfold sigR; isplitl [B7] <;> iassumption
    isplitl [R7 S7 X7]
    · unfold sendR
      isplitl [R7]; · iexact R7
      isplitl [S7] <;> iassumption
    isplitl [Q7]; · iexact Q7
    isplitl [C7]; · iexact C7
    isplitl [HcB]; · iexact HcB
    isplitl [PB]; · iexact PB
    isplitl [Z0]; · iexact Z0
    isplitl [R0]; · iexact R0
    isplitl [X0]; · iexact X0
    isplitl [P0]; · iexact P0
    isplitl [W0]; · iexact W0
    isplitl [P1]; · iexact P1
    isplitl [W1]; · iexact W1
    isplitl [P2]; · iexact P2
    isplitl [W2]; · iexact W2
    isplitl [P3]; · iexact P3
    isplitl [W3]; · iexact W3
    isplitl [P4]; · iexact P4
    isplitl [W4]; · iexact W4
    isplitl [P5]; · iexact P5
    isplitl [W5]; · iexact W5
    isplitl [P6]; · iexact P6
    isplitl [W6]; · iexact W6
    isplitl [P7]; · iexact P7
    isplitl [W7]; · iexact W7
    isplitl [U0]; · iexact U0
    isplitl [A0]; · iexact A0
    isplitl [HF0]; · iexact HF0
    isplitl [U1]; · iexact U1
    isplitl [A1]; · iexact A1
    isplitl [HF1]; · iexact HF1
    isplitl [Hout]; · iexact Hout
    isplitl [Hsx]; · iexact Hsx
    iexact Hsw
  iexact HS0

variable (K : Dev nD × Fin 16 → ℕ)

/-! ## Closing the cells -/

/-- A cell whose rounds are over is at zero. -/
theorem close_cell (ck : Dev nD × Fin 16) (g : GSem nD τ sig) (hg : kcell ck = g) :
    iprop(records m K ∗ atPos ER g 1 ∅ 0) ⊢ (iprop(|={Set.univ}=> semVal g 0) : sProp 𝕄) := by
  iintro ⟨HR, Hp⟩
  ihave HI := (rec_at m K ck g hg) $$ HR
  icases HI with ⟨HI, -⟩
  iapply (Rounds.cell_close ER (Rd m) (Set.mem_univ (K ck)) (fun h => h) (R := 0 + 1) (duties_later m g))
  isplitl [HI] <;> iassumption

/-- After the body every buffer is whole and every cell at zero. -/
theorem leaves_done (c : Dev nD) : iprop(records m K ∗ bodyLeaves m c ∗ semVal (sendCell c 0) 0)
    ⊢ (iprop(|={Set.univ}=> (Φ₁ m c ∗ ow c 0 ∗ (((c : Thread nD τ).loc cc0_stg0_0) ↦{fullShare} xstg m c) ∗ sxO m c ∗ swO m c ∗ oO c (outAt m c))) : sProp 𝕄) := by
  unfold bodyLeaves posB posS posR
  iintro ⟨#HR, ⟨A0, A1, B0, B1, F0, F1, HO, Ho, HpB, Hx, Hy, M0, M1, M2, M3, M4, M5, M6, M7, P0, P1, P2, P3, P4, P5, P6, P7, Q1, Q2, Q3, Q4, Q5, Q6, Q7, W0, W1, W2, W3, W4, W5, W6, W7, X0, X1, X2, X3, X4, X5, X6, X7, Y1, Y2, Y3, Y4, Y5, Y6, Y7⟩, HS0⟩
  imod (close_cell m K (c, 0) (barCell c) (kcell_bar c)) $$ [HpB] with HB
  · isplitr; · iexact HR
    iexact HpB
  imod (close_cell m K (c, kS 1) (sendCell c 1) (kcell_send c 1 (by decide))) $$ [Q1] with S1
  · isplitr; · iexact HR
    iexact Q1
  imod (close_cell m K (c, kS 2) (sendCell c 2) (kcell_send c 2 (by decide))) $$ [Q2] with S2
  · isplitr; · iexact HR
    iexact Q2
  imod (close_cell m K (c, kS 3) (sendCell c 3) (kcell_send c 3 (by decide))) $$ [Q3] with S3
  · isplitr; · iexact HR
    iexact Q3
  imod (close_cell m K (c, kS 4) (sendCell c 4) (kcell_send c 4 (by decide))) $$ [Q4] with S4
  · isplitr; · iexact HR
    iexact Q4
  imod (close_cell m K (c, kS 5) (sendCell c 5) (kcell_send c 5 (by decide))) $$ [Q5] with S5
  · isplitr; · iexact HR
    iexact Q5
  imod (close_cell m K (c, kS 6) (sendCell c 6) (kcell_send c 6 (by decide))) $$ [Q6] with S6
  · isplitr; · iexact HR
    iexact Q6
  imod (close_cell m K (c, kS 7) (sendCell c 7) (kcell_send c 7 (by decide))) $$ [Q7] with S7
  · isplitr; · iexact HR
    iexact Q7
  imod (close_cell m K (c, kR 0) (recvCell c 0) (kcell_recv c 0)) $$ [P0] with V0
  · isplitr; · iexact HR
    iexact P0
  imod (close_cell m K (c, kR 1) (recvCell c 1) (kcell_recv c 1)) $$ [P1] with V1
  · isplitr; · iexact HR
    iexact P1
  imod (close_cell m K (c, kR 2) (recvCell c 2) (kcell_recv c 2)) $$ [P2] with V2
  · isplitr; · iexact HR
    iexact P2
  imod (close_cell m K (c, kR 3) (recvCell c 3) (kcell_recv c 3)) $$ [P3] with V3
  · isplitr; · iexact HR
    iexact P3
  imod (close_cell m K (c, kR 4) (recvCell c 4) (kcell_recv c 4)) $$ [P4] with V4
  · isplitr; · iexact HR
    iexact P4
  imod (close_cell m K (c, kR 5) (recvCell c 5) (kcell_recv c 5)) $$ [P5] with V5
  · isplitr; · iexact HR
    iexact P5
  imod (close_cell m K (c, kR 6) (recvCell c 6) (kcell_recv c 6)) $$ [P6] with V6
  · isplitr; · iexact HR
    iexact P6
  imod (close_cell m K (c, kR 7) (recvCell c 7) (kcell_recv c 7)) $$ [P7] with V7
  · isplitr; · iexact HR
    iexact P7
  ihave Xc := (ret_all m c) $$ [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  ihave Hst := (x_join m c) $$ [Xc Y1 Y2 Y3 Y4 Y5 Y6 Y7]
  · isplitl [Xc]; · iexact Xc
    isplitl [Y1]; · iexact Y1
    isplitl [Y2]; · iexact Y2
    isplitl [Y3]; · iexact Y3
    isplitl [Y4]; · iexact Y4
    isplitl [Y5]; · iexact Y5
    isplitl [Y6]; · iexact Y6
    iexact Y7
  ihave Hw := (w_join m c) $$ [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  ihave Hc := (c_join c (cB m c)) $$ [M0 M1 M2 M3 M4 M5 M6 M7]
  · isplitl [M0]; · iexact M0
    isplitl [M1]; · iexact M1
    isplitl [M2]; · iexact M2
    isplitl [M3]; · iexact M3
    isplitl [M4]; · iexact M4
    isplitl [M5]; · iexact M5
    isplitl [M6]; · iexact M6
    iexact M7
  ihave Hbuf := (buf_join c (fun s => if s = 0 then wS m c 6 else wS m c 7)) $$ [B0 B1]
  · isplitl [B0]; · iexact B0
    iexact B1
  ihave Hbf := (bf_join c (fun s => if s = 0 then wB m c 6 else wB m c 7)) $$ [A0 A1]
  · isplitl [A0]; · iexact A0
    iexact A1
  imodintro
  isplitl [HB S1 S2 S3 S4 S5 S6 S7 V0 V1 V2 V3 V4 V5 V6 V7 HS0 F0 F1 Hw Hc Hbuf Hbf]
  · unfold Φ₁ scr extra
    isplitl [HB S1 S2 S3 S4 S5 S6 S7 V0 V1 V2 V3 V4 V5 V6 V7 HS0 F0 F1]
    · isplitl [HB S1 S2 S3 S4 S5 S6 S7 V0 V1 V2 V3 V4 V5 V6 V7]
      · rw [cellSems_eq]
        isplitl [HB]; · iexact HB
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [V0]; · iexact V0
        isplitl [V1]; · iexact V1
        isplitl [V2]; · iexact V2
        isplitl [V3]; · iexact V3
        isplitl [V4]; · iexact V4
        isplitl [V5]; · iexact V5
        isplitl [V6]; · iexact V6
        iexact V7
      isplitl [HS0]; · iexact HS0
      isplitl [F0] <;> iassumption
    isplitl [Hw]; · iexact Hw
    isplitl [Hc]; · iexact Hc
    isplitl [Hbuf] <;> iassumption
  isplitl [HO]; · iexact HO
  isplitl [Hst]; · iexact Hst
  isplitl [Hx]; · iexact Hx
  isplitl [Hy]; · iexact Hy
  iexact Ho

/-! ## The body -/

/-- A staging buffer with contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The windows: `x`'s columns, the two scales, and the result's rows. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body is given. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- What the body leaves. -/
def bodyPost (c : Dev nD) : sProp 𝕄 :=
  iprop(Φ₁ m c ∗ (dats m ρ 0 c).owesAt () t0_0.succ
    ∗ stg c cc0_stg0_0 (xstg m c) ∗ stg c cc0_stg1_0 (sxstg m c) ∗ stg c cc0_stg2_0 (swstg m c) ∗ stg c cc0_stg3_0 (outAt m c))

/-- The windows hold the arguments before the body runs. -/
theorem before_0 (c : Dev nD) (d) : (dats m ρ 0 c).before (0 : Fin 4) t0_0 d = xstg m c := by
  unfold Dat.before; rw [if_pos (fetch0_0 t0_0)]; rfl
/-- The window of the first scale holds it. -/
theorem before_1 (c : Dev nD) (d) : (dats m ρ 0 c).before (1 : Fin 4) t0_0 d = sxstg m c := by
  unfold Dat.before; rw [if_pos (fetch0_1 t0_0)]; rfl
/-- The window of the second scale holds it. -/
theorem before_2 (c : Dev nD) (d) : (dats m ρ 0 c).before (2 : Fin 4) t0_0 d = swstg m c := by
  unfold Dat.before; rw [if_pos (fetch0_2 t0_0)]; rfl

/-- The body, run from what it is given, leaves what it must. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body xM (Memref.isWhole_whole _) wM (Memref.isWhole_whole _) (Memref.whole cc0_stg1_0) (Memref.isWhole_whole _)
    (Memref.whole cc0_stg2_0) (Memref.isWhole_whole _) oM (Memref.isWhole_whole _) cM (Memref.isWhole_whole _) bufM (Memref.isWhole_whole _)
    bfM (Memref.isWhole_whole _) cc0_scratch3 cc0_scratch4 cc0_scratch5) (fun _ => bodyPost m ρ c)
  unfold bodyPre Φ₀ start scr G'
  iintro ⟨⟨⟨⟨%K, #HR, Hlin⟩, Hcr, #HL, Hw⟩, ⟨%f0, H0⟩, ⟨%f1, H1⟩, ⟨%f2, H2⟩⟩, Ho, ⟨%d0, Hx⟩, ⟨%d1, Hsx⟩, ⟨%d2, Hsw⟩, ⟨%d3, Hout⟩⟩
  rw [before_0, before_1, before_2]
  unfold stg
  icases Hx with ⟨%x0, %hx0, Hx⟩
  icases Hsx with ⟨%x1, %hx1, Hsx⟩
  icases Hsw with ⟨%x2, %hx2, Hsw⟩
  icases Hout with ⟨%y0, %hy0, Hout⟩
  subst hx0; subst hx1; subst hx2
  unfold Dat.owesAt Pipeline.owesWithin
  icases Ho with ⟨%W, %hW, HO⟩
  ihave HH := (has_intro m c f0 f1 f2 y0) $$ [Hlin Hcr Hw H0 H1 H2 HO Hx Hsx Hsw Hout]
  · unfold sxO swO oO
    isplitl [Hlin]; · iexact Hlin
    isplitl [Hcr]; · iexact Hcr
    isplitl [Hw]; · iexact Hw
    isplitl [H0]; · iexact H0
    isplitl [H1]; · iexact H1
    isplitl [H2]; · iexact H2
    isplitl [HO]
    · unfold ow; iexists W; iexact HO
    isplitl [Hx]; · iexact Hx
    isplitl [Hsx]; · iexact Hsx
    isplitl [Hsw]; · iexact Hsw
    iexact Hout
  icases HH with ⟨HH, HS0⟩
  iapply (body_run m K c _ _ _ _ _ _ _ _) $$ [HH]
  · isplitr; · iexact HR
    isplitr; · iexact HL
    iexact HH
  iintro Hl
  imod (leaves_done m K c) $$ [Hl HS0] with ⟨HΦ, HO, Hx, Hsx, Hsw, Hout⟩
  · isplitr; · iexact HR
    isplitl [Hl] <;> iassumption
  imodintro
  unfold sxO swO oO bodyPost
  isplitl [HΦ]; · iexact HΦ
  isplitl [HO]
  · unfold ow
    icases HO with ⟨%W', HO⟩
    unfold Dat.owesAt Pipeline.owesWithin
    iexists W'
    isplitr; · ipureintro; exact fun _ _ => Or.inl trivial
    iexact HO
  unfold stg
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

/-! ## The launch theorem's side conditions -/

/-- Every window is owned whole. -/
theorem share_eq (c : Dev nD) (w : Fin 4) : (dats (F := F) m ρ 0 c).share w = fullShare := by unfold Dat.share; split <;> rfl

/-- The pipeline's own waits are below what a device owes. -/
theorem waits (c : Dev nD) : (levAts L lv : sProp 𝕄) ⊢ Pipeline.cellsWaits cfgs (dats (F := F) m ρ) () 0 c :=
  Pipeline.cellsWaits_intro cfgs (dats m ρ) () 0 c fun w s t => mayWait_stage c _ (by fin_cases w <;> fin_cases s <;> decide) _
    (by rcases t with ⟨_ | _, ht⟩; exact Or.inl rfl; exact Or.inr rfl)

/-- The buffers outside the pipeline. -/
theorem rest_eq (c : Dev nD) (V : (b : Ref sig .tc) → Buf (Elt F) ((c : Thread nD τ).loc b)) :
    (Pipeline.unscopedRestP Pipeline.Prefetch.none cfg0.spec c V : sProp 𝕄) = (((c : Thread nD τ).loc main_arg1) ↦{fullShare} V main_arg1) :=
  Pipeline.unscopedRestP_eq_of_list (pre := Pipeline.Prefetch.none) (win := cfg0.spec) (c := c) (V := V) (l := [main_arg1]) (h := by decide) (hl := by decide)

/-- The launch gives what the kernel starts with. -/
theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' m c)
      ⊢ (iprop(|={Set.univ}=> (start m c ∗ emp)) : sProp 𝕄) := by
  rw [rest_eq]
  iintro ⟨Hw, HL, Hcr, -, HG⟩
  ihave Hcr := (creds_intro (F := F) c) $$ Hcr
  imodintro
  isplitl
  · unfold start wPts
    isplitl [HG]; · iexact HG
    isplitl [Hcr]; · iexact Hcr
    isplitl [HL] <;> iassumption
  iempintro

/-- And the scratch buffers with it. -/
theorem phi0_intro (c : Dev nD) :
    iprop(start m c ∗ Pipeline.prefHeld Pipeline.Prefetch.none c (fun _ => fullShare.right) (fun k => k.elim0) ∗ Pipeline.scopedRest cfg0.spec c)
      ⊢ ((dats (F := F) m ρ 0 c).Φ 0 : sProp 𝕄) := by
  rw [show (dats (F := F) m ρ 0 c).Φ 0 = Φ₀ m c from rfl, scopedRest0_eq]
  unfold Φ₀ scr
  iintro ⟨Hs, -, Hr⟩
  isplitl [Hs] <;> iassumption

/-- At the end the scratch buffers and the semaphores are given back. -/
theorem phi1_exit (c : Dev nD) : ((dats (F := F) m ρ 0 c).Φ (Fin.last cfg0.N) : sProp 𝕄)
    ⊢ iprop((unscopedSems0 c ∗ wPts m c) ∗ Pipeline.ownSems0 osem c ∗ Pipeline.scopedRest cfg0.spec c) := by
  rw [show (dats (F := F) m ρ 0 c).Φ (Fin.last cfg0.N) = Φ₁ m c from rfl, scopedRest0_eq]
  unfold Φ₁ scr
  iintro ⟨Hs, Hw, Hr⟩
  ihave Hs := (sems_join (F := F) c) $$ Hs
  icases Hs with ⟨Hu, Ho⟩
  isplitl [Hu Hw]
  · isplitl [Hu] <;> iassumption
  isplitl [Ho] <;> iassumption

/-! ## The run -/

/-- What a window's array holds in the end. -/
def finalA (c : Dev nD) (w : Fin 4) := (dats (F := F) m ρ 0 c).arrAt w cfg0.N

/-- What the run ends with: every window's array as computed, and `w` as it was. -/
def QC (r : PUnit × MemSt nD τ sig (Elt F)) : Prop :=
  (∀ (c : Dev nD) (w : Fin 4), r.2.mem ((cfg0.win w).arr.view.loc (c : Thread nD τ)) = finalA m ρ c w)
    ∧ ∀ c : Dev nD, r.2.mem ((c : Thread nD τ).loc main_arg1) = m ((c : Thread nD τ).loc main_arg1)

/-- What the final memory holds. -/
theorem end_read (c : Dev nD) (s' : Phys nD τ sig (Elt F)) :
    iprop((unscopedSems0 c ∗ wPts m c) ∗ emp ∗ SI s')
      ⊢ (iprop(|={Set.univ}=> (⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s')) : sProp 𝕄) := by
  iintro ⟨⟨Hu, Hw⟩, -, HSI⟩
  ihave H := (pointsTo_read_all ({main_arg1} : Finset (Ref sig .tc)) (fun b => (c : Thread nD τ).loc b) (fun b => m ((c : Thread nD τ).loc b)) s') $$ [Hw HSI]
  · isplitl [Hw]
    · rw [bigSep_singleton]; unfold wPts; iexact Hw
    iexact HSI
  icases H with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hw main_arg1 (Finset.mem_singleton_self _)⟩
  iexact HSI

/-- The whole mesh runs to its end: every window's array holds what is stated, `w` is unchanged, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _) (harr := arr_whole0)
    (hstage := stage_whole0) (hshare := share_eq m ρ)
    (hdistinct := winFacts0.arr_inj) (O₀ := O₀) (howed₀ := fun _ => rfl) (howedN := fun _ => rfl)
    (L := L) (lv := lv) (hL := L_of_ne) (hwaits := waits m ρ) (G := G m) (G' := G' m) (u₀ := u₀)
    (hu₀ := by
      iintro Hu
      ihave H := (own_u₀ (F := F)) $$ Hu
      icases H with ⟨HP, HX⟩
      imod (fund_all m) $$ HX with HG
      imodintro
      isplitl [HP] <;> iassumption)
    (hglob := glob m) (hA := fun _ _ => rfl) (hpf := fun _ k => k.elim0)
    (X := start m) (Y := fun c => iprop(unscopedSems0 c ∗ wPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := end_read m)
    (hQ := fun _ h hs => ⟨⟨fun c w => (h c).1 w, fun c => (h c).2.2.2⟩, sem_eq_zero hs fun c => (h c).2.2.1⟩)

end Cert.Mesh

end
-- ==== Proof.Value.lean ====
/-
# What the kernel computes

At the ideal values: each device's running sum of eight products is its rows of the whole product.
-/
module

public import proofs.«01_k».proof.Proof.Launch
public import Idealize.ShloMosaic.Lib.MatmulPlain
public import Idealize.ShloMosaic.Lib.StackMember
public import Idealize.ShloMosaic.Lib.Pipeline.Value
public import Idealize.ShloMosaic.Lib.Pipeline.ValueKit.Geometry
public import Idealize.ShloMosaic.Lib.Layout

@[expose] public section

set_option maxRecDepth 16384

noncomputable section

namespace Cert.Mesh

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ)

/-- A signed byte as a number. -/
def num (b : BitVec 8) : EReal := ((b.toInt : ℝ) : EReal)

/-- Casting a slot's contents down to its two axes gives back the block put in. -/
theorem cast_unsq {s s' : Shape} (h : s.Squeezes s') (hc : s.ShapeCasts s') {α : Type} (Y : s'.Idx → α) : shapeCast s' (unsq h Y) hc = Y := by
  funext j
  show Y ((Shape.reshapeEquiv h.numel_eq).symm (Shape.reshapeEquiv h.numel_eq j)) = Y j
  rw [Equiv.symm_apply_apply]

/-- A converted slot, cast down, is the block converted. -/
theorem wB_cast (c : Dev nD) (b : Fin 8) :
    shapeCast S512x8192 (wB m c b) shapeCasts_S1x512x8192_S512x8192 = (sitofp .bf16 (wblk m c b : IVec S512x8192 8) : FVec Ideal S512x8192 .bf16) := by
  unfold wB k0_pay1 wS
  dsimp only
  rw [cast_unsq]
  exact shapeCast_shapeCast _ _ _

/-- One product's entry. -/
def term (c : Dev nD) (r : Fin 512) (n : Fin 8192) (j : Fin 8) : EReal :=
  ∑ k : Fin 512, num (xblk m j c (ix2 r k)) * num (wblk m c j (ix2 k n))

/-- One entry of one of the eight products. -/
theorem prod_apply (c : Dev nD) (r : Fin 512) (n : Fin 8192) (j : Fin 8) :
    (matmul dot_S512x512_S512x8192_S512x8192_1_0_0_1_n_n none (sitofp .bf16 (shapeCast S512x512 (cB m c j) shapeCasts_S1x512x512_S512x512 : IVec S512x512 8))
      (shapeCast S512x8192 (wB m c j) shapeCasts_S1x512x8192_S512x8192 : FVec Ideal S512x8192 .bf16) (constant S512x8192 .f32 0x00000000#32) : FVec Ideal S512x8192 .f32) (ix2 r n)
      = term m c r n j := by
  rw [wB_cast]
  unfold cB
  rw [cast_unsq]
  refine (Ideal.matmul_plain_apply (M := 512) (K := 512) (N := 8192) none _ _ _ r n).trans ?_
  have h0 : (constant S512x8192 .f32 0x00000000#32 : FVec Ideal S512x8192 .f32) (ix2 r n) = 0 := Ideal.ofBits_zero_f32
  rw [h0, zero_add]
  rfl

/-- The first product is the first running sum. -/
theorem acc0_apply (c : Dev nD) (r : Fin 512) (n : Fin 8192) : acc0 m c (ix2 r n) = term m c r n 0 := by
  unfold acc0 k0_pay3
  exact prod_apply m c r n 0

/-- Each further product is added to the running sum. -/
theorem step_apply (c : Dev nD) (r : Fin 512) (n : Fin 8192) (j : Fin 8) (A : S512x8192.Idx → EReal) :
    (k0_pay5 (F := Ideal) (cB m c j) (wB m c j) A) (ix2 r n) = A (ix2 r n) + term m c r n j := by
  unfold k0_pay5
  rw [shapeCast_self]
  exact congrArg (A (ix2 r n) + ·) (prod_apply m c r n j)

/-- After eight products: the sum of the eight. -/
theorem acc7_apply (c : Dev nD) (r : Fin 512) (n : Fin 8192) : acc7 m c (ix2 r n) = ∑ j : Fin 8, term m c r n j := by
  rw [Fin.sum_univ_eight]
  unfold acc7; rw [step_apply]
  unfold acc6; rw [step_apply]
  unfold acc5; rw [step_apply]
  unfold acc4; rw [step_apply]
  unfold acc3; rw [step_apply]
  unfold acc2; rw [step_apply]
  unfold acc1; rw [step_apply, acc0_apply]

/-- One entry of a device's result. -/
theorem outAt_apply (c : Dev nD) (r : Fin 512) (n : Fin 8192) :
    outAt m c (ix2 r n) = max ((∑ j : Fin 8, term m c r n j) * (elt1 (F := Ideal) (sxstg m c) * elt1 (F := Ideal) (swstg m c))) (0 : EReal) := by
  rw [← acc7_apply]
  unfold outAt k0_pay18
  rw [shapeCast_self]
  show max (acc7 m c (ix2 r n) * (elt1 (F := Ideal) (sxstg m c) * elt1 (F := Ideal) (swstg m c))) (Ideal.ofBits .f32 0x00000000#32) = _
  rw [Ideal.ofBits_zero_f32]

/-- A sum over all columns of `x`, device by device. -/
theorem sum_blocks (f : Fin 4096 → EReal) : ∑ q, f q = ∑ j : Fin 8, ∑ k : Fin 512, f ⟨512 * j.val + k.val, by omega⟩ := by
  have h := (Equiv.sum_comp (finProdFinEquiv (m := 8) (n := 512)) (fun q : Fin (8 * 512) => f ⟨q.val, q.isLt⟩)).symm
  rw [Fintype.sum_prod_type] at h
  refine Eq.trans h (Finset.sum_congr rfl fun j _ => Finset.sum_congr rfl fun k _ => congrArg f (Fin.ext ?_))
  show k.val + 512 * j.val = 512 * j.val + k.val
  omega

/-! ## Windows that are the whole array -/

/-- The staged columns of `x` are the device's argument. -/
theorem xstg_eq (c : Dev nD) : xstg m c = m ((c : Thread nD τ).loc main_arg0) := by
  funext i
  refine congrArg (m ((c : Thread nD τ).loc main_arg0)) (funext fun a => Fin.ext ?_)
  match a with
  | ⟨0, _⟩ => exact (show 0 * 4096 + 1 * (i 0).val = (i 0).val by omega)
  | ⟨1, _⟩ => exact (show 0 * 512 + 1 * (i 1).val = (i 1).val by omega)

/-- The first staged scale is the argument. -/
theorem sxstg_eq (c : Dev nD) : sxstg m c = m ((c : Thread nD τ).loc main_arg2) := by
  funext i
  refine congrArg (m ((c : Thread nD τ).loc main_arg2)) (funext fun a => Fin.ext ?_)
  match a with
  | ⟨0, _⟩ => exact (show 0 * 1 + 1 * (i 0).val = (i 0).val by omega)

/-- The second staged scale is the argument. -/
theorem swstg_eq (c : Dev nD) : swstg m c = m ((c : Thread nD τ).loc main_arg3) := by
  funext i
  refine congrArg (m ((c : Thread nD τ).loc main_arg3)) (funext fun a => Fin.ext ?_)
  match a with
  | ⟨0, _⟩ => exact (show 0 * 1 + 1 * (i 0).val = (i 0).val by omega)

variable (ρ : Dev nD → PrngReg)

/-- The result's array ends holding what the body left. -/
theorem final_out (c : Dev nD) : finalA m ρ c 3 = outAt m c :=
  (dats m ρ 0 c).arrAt_eq_of_after_last (3 : Fin 4) t0_0 (by decide +kernel) (outAt m c) (fun j => rfl)

/-! ## The blocks in terms of the whole arrays -/

/-- A row block of a device's columns, in terms of the whole `x`. -/
theorem xblk_at (X : (⟨2, ![4096, 4096]⟩ : Shape).Idx → BitVec 8)
    (hX : ∀ c : Dev nD, m ((c : Thread nD τ).loc main_arg0) = Layout.block ⟨2, ![4096, 512]⟩ ⟨2, ![4096, 4096]⟩ 1 8 c X)
    (c : Dev nD) (j : Fin 8) (r k : Fin 512) :
    xblk m j c (ix2 r k) = X (ix2 ⟨512 * c.val + r.val, by have := c.isLt; have : c.val < 8 := this; omega⟩ ⟨512 * j.val + k.val, by omega⟩) := by
  unfold xblk
  rw [xstg_eq, hX j, Layout.block_apply]
  refine congrArg X (funext fun a => Fin.ext ?_)
  match a with
  | ⟨0, _⟩ => exact (show 512 * c.val + 1 * r.val = 512 * c.val + r.val by omega)
  | ⟨1, _⟩ => exact (show j.val * 512 + (0 + 1 * k.val) = 512 * j.val + k.val by omega)

/-- A row block of `w`, in terms of the whole `w`. -/
theorem wblk_at (c : Dev nD) (j : Fin 8) (k : Fin 512) (n : Fin 8192) :
    wblk m c j (ix2 k n) = m ((c : Thread nD τ).loc main_arg1) (ix2 ⟨512 * j.val + k.val, by omega⟩ n) := by
  unfold wblk
  refine congrArg (m ((c : Thread nD τ).loc main_arg1)) (funext fun a => Fin.ext ?_)
  match a with
  | ⟨0, _⟩ => exact (show 512 * j.val + 1 * k.val = 512 * j.val + k.val by omega)
  | ⟨1, _⟩ => exact (show 0 + 1 * n.val = n.val by omega)

/-- Over all devices' columns: the whole sum. -/
theorem terms_eq (X : (⟨2, ![4096, 4096]⟩ : Shape).Idx → BitVec 8)
    (hX : ∀ c : Dev nD, m ((c : Thread nD τ).loc main_arg0) = Layout.block ⟨2, ![4096, 512]⟩ ⟨2, ![4096, 4096]⟩ 1 8 c X)
    (c : Dev nD) (r : Fin 512) (n : Fin 8192) :
    ∑ j : Fin 8, term m c r n j
      = ∑ q : Fin 4096, num (X (ix2 ⟨512 * c.val + r.val, by have := c.isLt; have : c.val < 8 := this; omega⟩ q)) * num (m ((c : Thread nD τ).loc main_arg1) (ix2 q n)) := by
  rw [sum_blocks]
  refine Finset.sum_congr rfl fun j _ => ?_
  unfold term
  exact Finset.sum_congr rfl fun k _ => by rw [xblk_at m X hX, wblk_at]

end Cert.Mesh

end
-- ==== Proof.Ref.lean ====
/-
# What the reference computes

Entry by entry, at the ideal values.
-/
module

public import proofs.«01_k».proof.Proof.Gen.ReferenceIdeal.Run
public import Idealize.ShloMosaic.Lib.StackMember

@[expose] public section

set_option maxRecDepth 16384

noncomputable section

namespace Cert.RefVal

open Cert.ReferenceIdeal Cert.ReferenceIdeal.Gen

open Idealize.ShloMosaic
open Idealize.ShloMosaic.ValueIdx
open scoped BigOperators

/-- The reference's result of its four arguments. -/
def refVal (X : S4096x4096.Idx → BitVec 8) (W : S4096x8192.Idx → BitVec 8) (sx sw : S1.Idx → EReal) : S4096x8192.Idx → EReal :=
  (maximumf (mulf (Host.dotGeneral dot_S4096x4096_S4096x8192_S4096x8192_1_0_0_1_n_n none (sitofp .f32 (extsi 32 (X : IVec S4096x4096 8) natLt_8_32))
      (sitofp .f32 (extsi 32 (W : IVec S4096x8192 8) natLt_8_32)))
    (broadcastInDim S4096x8192 ![0, 1] bcast_S1x1_S4096x8192_0_1 (broadcastInDim S1x1 ![1] bcast_S1_S1x1_1 (mulf (sx : FVec Ideal S1 .f32) (sw : FVec Ideal S1 .f32)))))
    (broadcastInDim S4096x8192 ![] bcast_S_S4096x8192 (constant S_ .f32 0x00000000#32)) : FVec Ideal S4096x8192 .f32)

/-- An 8-bit integer widened is the same number. -/
theorem widen (b : BitVec 8) : (((b.signExtend 32).toInt : ℝ) : EReal) = ((b.toInt : ℝ) : EReal) := by
  rw [BitVec.toInt_signExtend_of_le (by decide)]

/-- The one index of a one-element vector. -/
theorem one_idx (i j : S1.Idx) : i = j := by
  funext a
  apply Fin.ext
  have h1 := (i a).isLt
  have h2 := (j a).isLt
  match a with
  | ⟨0, _⟩ =>
    have h1 : (i 0).val < 1 := (i 0).isLt
    have h2 : (j 0).val < 1 := (j 0).isLt
    exact (show (i 0).val = (j 0).val by omega)

/-- One entry of the reference's product: a sum of 4096 products of integers. -/
theorem dot_apply (X : S4096x4096.Idx → BitVec 8) (W : S4096x8192.Idx → BitVec 8) (r : Fin 4096) (n : Fin 8192) :
    (Host.dotGeneral dot_S4096x4096_S4096x8192_S4096x8192_1_0_0_1_n_n none (sitofp .f32 (extsi 32 (X : IVec S4096x4096 8) natLt_8_32) : FVec Ideal S4096x4096 .f32)
      (sitofp .f32 (extsi 32 (W : IVec S4096x8192 8) natLt_8_32) : FVec Ideal S4096x8192 .f32) : FVec Ideal S4096x8192 .f32) (ix2 r n)
      = ∑ q : Fin 4096, (((X (ix2 r q)).toInt : ℝ) : EReal) * (((W (ix2 q n)).toInt : ℝ) : EReal) := by
  refine (StackMember.dotGeneral_plain_apply (m := 4096) (k := 4096) (n := 8192) none _ _ r n).trans ?_
  refine Finset.sum_congr rfl fun q _ => ?_
  rw [← widen, ← widen]
  rfl

/-- One entry of the reference's result. -/
theorem refVal_apply (X : S4096x4096.Idx → BitVec 8) (W : S4096x8192.Idx → BitVec 8) (sx sw : S1.Idx → EReal) (i0 : S1.Idx) (r : Fin 4096) (n : Fin 8192) :
    refVal X W sx sw (ix2 r n)
      = max ((∑ q : Fin 4096, (((X (ix2 r q)).toInt : ℝ) : EReal) * (((W (ix2 q n)).toInt : ℝ) : EReal)) * (sx i0 * sw i0)) (0 : EReal) := by
  rw [← dot_apply, ← Ideal.ofBits_zero_f32]
  unfold refVal
  refine congrArg (fun z : EReal => max ((Host.dotGeneral dot_S4096x4096_S4096x8192_S4096x8192_1_0_0_1_n_n none (sitofp .f32 (extsi 32 (X : IVec S4096x4096 8) natLt_8_32) : FVec Ideal S4096x4096 .f32)
      (sitofp .f32 (extsi 32 (W : IVec S4096x8192 8) natLt_8_32) : FVec Ideal S4096x8192 .f32) : FVec Ideal S4096x8192 .f32) (ix2 r n) * z) (Ideal.ofBits .f32 0x00000000#32)) ?_
  exact congrArg (fun i => sx i * sw i) (one_idx _ i0)

end Cert.RefVal

end
-- ==== Proof.Same.lean ====
/-
# The two printed kernels are one program

The kernel as written and the kernel for the reals are printed alike, so what one does the other does.
-/
module

public import proofs.«01_k».proof.Proof.Gen.Kernel
public import proofs.«01_k».proof.Proof.Gen.KernelIdeal

@[expose] public section

set_option maxRecDepth 16384

noncomputable section

namespace Cert.Same

open Idealize.ShloMosaic

variable {F : FTy → Type} [FloatOps F]

/-- The two kernels have the same bodies. -/
theorem bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The same bodies under the same launch. -/
theorem tables : Cert.Kernel.defs (F := F) = Cert.KernelIdeal.defs (F := F) := by
  unfold Cert.Kernel.defs Cert.KernelIdeal.defs
  exact congrArg (Pipeline.defs _) bodies

/-- The same host program. -/
theorem mains : Cert.Kernel.main (F := F) = Cert.KernelIdeal.main (F := F) := rfl

end Cert.Same

end
-- ==== Proof.Claims.lean ====
/-
# The claims

What the run of the kernel and the run of the reference give.
-/
module

public import proofs.«01_k».proof.Proof.Value
public import proofs.«01_k».proof.Proof.Ref
public import proofs.«01_k».proof.Proof.Same
public import proofs.«01_k».proof.Defs
public import proofs.«01_k».proof.Proof.Gen.Kernel

@[expose] public section

set_option maxRecDepth 16384

noncomputable section

namespace Cert.Proof

open Idealize.ShloMosaic Idealize.ShloMosaic.ValueIdx Idealize.SL.Sem
open Cert.Mesh (QC finalA dats run_main)

/-- A run that ends as `QC` says leaves the four arguments as they were. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F)) (h : QC m ρ r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h.1 c 0).trans ((dats (F := F) m ρ 0 c).arrAt_in (0 : Fin 4) rfl _), h.2 c,
    (h.1 c 1).trans ((dats (F := F) m ρ 0 c).arrAt_in (1 : Fin 4) rfl _),
    (h.1 c 2).trans ((dats (F := F) m ρ 0 c).arrAt_in (2 : Fin 4) rfl _)⟩

/-- The kernel as written runs to its end, leaves its arguments and every counter as they were. -/
theorem frame_kernel : Cert.quiescent_Kernel := by
  intro m ρ _
  have h := (θ_run (Cert.KernelIdeal.defs (F := Bits)) (onTc (τ := Cert.KernelIdeal.τ) (Cert.KernelIdeal.main (F := Bits))) ⟨m, fun _ => 0, ρ⟩).mono
    (fun r h => And.intro (args_kept m ρ r h.1) h.2) (run_main (F := Bits) m ρ)
  rw [← Cert.Same.tables, ← Cert.Same.mains] at h
  exact h

/-- So does the kernel over the reals. -/
theorem frame_kernelIdeal : Cert.quiescent_KernelIdeal := fun m ρ _ =>
  (θ_run Cert.KernelIdeal.defs _ _).mono (fun r h => ⟨args_kept m ρ r h.1, h.2⟩) (run_main (F := Ideal) m ρ)

/-- So does the reference, which has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- A device's result is its 512 rows of the reference's result. -/
theorem out_eq (m : (ℓ : Loc Cert.KernelIdeal.nD Cert.KernelIdeal.τ Cert.KernelIdeal.sig) → Buf (Elt Ideal) ℓ)
    (X : Cert.ReferenceIdeal.S4096x4096.Idx → BitVec 8) (W : Cert.ReferenceIdeal.S4096x8192.Idx → BitVec 8) (sx sw : Cert.ReferenceIdeal.S1.Idx → EReal)
    (hX : ∀ c : Dev Cert.KernelIdeal.nD, m ((c.tc : Thread Cert.KernelIdeal.nD Cert.KernelIdeal.τ).loc Cert.KernelIdeal.main_arg0) = Layout.block ⟨2, ![4096, 512]⟩ ⟨2, ![4096, 4096]⟩ 1 8 c X)
    (hW : ∀ c : Dev Cert.KernelIdeal.nD, m ((c.tc : Thread Cert.KernelIdeal.nD Cert.KernelIdeal.τ).loc Cert.KernelIdeal.main_arg1) = W)
    (hx : ∀ c : Dev Cert.KernelIdeal.nD, m ((c.tc : Thread Cert.KernelIdeal.nD Cert.KernelIdeal.τ).loc Cert.KernelIdeal.main_arg2) = sx)
    (hw : ∀ c : Dev Cert.KernelIdeal.nD, m ((c.tc : Thread Cert.KernelIdeal.nD Cert.KernelIdeal.τ).loc Cert.KernelIdeal.main_arg3) = sw)
    (c : Dev Cert.KernelIdeal.nD) :
    Cert.Mesh.outAt m c = Layout.block ⟨2, ![512, 8192]⟩ ⟨2, ![4096, 8192]⟩ 0 8 c (Cert.RefVal.refVal X W sx sw) := by
  funext i
  obtain ⟨r, n, rfl⟩ : ∃ (r : Fin 512) (n : Fin 8192), i = ix2 r n := ⟨i 0, i 1, by
    funext a
    match a with
    | ⟨0, _⟩ => rfl
    | ⟨1, _⟩ => rfl⟩
  have hc : c.val < 8 := c.isLt
  have hidx : ∀ h : Layout.Tiles ⟨2, ![512, 8192]⟩ ⟨2, ![4096, 8192]⟩ 0 8, Layout.Tiles.idx (S := ⟨2, ![512, 8192]⟩) (T := ⟨2, ![4096, 8192]⟩) (a := 0) (k := 8) h c (ix2 r n)
      = ix2 ⟨512 * c.val + r.val, by omega⟩ n := fun h => by
    funext a
    apply Fin.ext
    match a with
    | ⟨0, _⟩ => exact (show c.val * 512 + r.val = 512 * c.val + r.val by omega)
    | ⟨1, _⟩ => rfl
  rw [Layout.block_apply, hidx, Cert.RefVal.refVal_apply X W sx sw (Shape.Idx.first (by decide)), Cert.Mesh.outAt_apply, Cert.Mesh.terms_eq m X hX,
    Cert.Mesh.sxstg_eq, Cert.Mesh.swstg_eq, hx, hw, hW]
  rfl

/-- Over the reals the kernel computes the reference: each device its own rows. -/
theorem algebraic : Cert.algebraic_KernelIdeal_ReferenceIdeal := by
  intro m ρ m' ρ' _ hagree
  refine ⟨Cert.RefVal.refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, args_kept m ρ r h.1 c⟩) (run_main (F := Ideal) m ρ)
    refine (h.1.1 c 3).trans ((Cert.Mesh.final_out m ρ c).trans ?_)
    exact out_eq m _ _ _ _ (fun c => (hagree c).1) (fun c => (hagree c).2.1) (fun c => (hagree c).2.2.1) (fun c => (hagree c).2.2.2) c
  · exact (θ_run Cert.ReferenceIdeal.defs _ _).mono (fun r h => h 0) (Cert.ReferenceIdeal.Value.run m' ρ')

end Cert.Proof

end
-- ==== Proof.lean ====
/-
# The certificate

The claims, put together.
-/
module

public import proofs.«01_k».proof.Proof.Gen.ReferenceIdeal.Run
public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  frame_kernel, frame_kernelIdeal, frame_ref, trivial, algebraic⟩

end Cert.Proof

end
